-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 2048, 512]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 2048, 4, 64]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 2048, 4, 64]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![2, 2048, 512]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  bcast_S_S512x256 : S_.BroadcastsInDim S512x256 (![] : Fin 0 → Fin S512x256.rank)
  bcast_S_S2x128x4x64 : S_.BroadcastsInDim S2x128x4x64 (![] : Fin 0 → Fin S2x128x4x64.rank)

variable [Facts]

def fn {F : FTy → Type} [FloatOps F] (main_arg0 : FVec F S2x128x512 .f32) (main_arg1 : FVec F S512x256 .f32) (main_arg2 : FVec F S2x128x4x64 .f32) (main_arg3 : FVec F S2x128x4x64 .f32) (main_arg4 : FVec F S256x512 .f32) : IVec S2x128x512 1 × IVec S512x256 1 × IVec S2x128x4x64 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_v3 : FVec F S512x256 .f32 := Host.absf main_arg1
  let main_cst_0 : FVec F S_ .f32 := constant S_ .f32 0x7F800000#32
  let main_v4 : FVec F S512x256 .f32 := broadcastInDim S512x256 ![] bcast_S_S512x256 main_cst_0
  let main_v5 : IVec S512x256 1 := cmpf .olt main_v3 main_v4
  let main_v6 : FVec F S2x128x4x64 .f32 := Host.absf main_arg2
  let main_cst_1 : FVec F S_ .f32 := constant S_ .f32 0x7F800000#32
  let main_v7 : FVec F S2x128x4x64 .f32 := broadcastInDim S2x128x4x64 ![] bcast_S_S2x128x4x64 main_cst_1
  let main_v8 : IVec S2x128x4x64 1 := cmpf .olt main_v6 main_v7
  (main_v2, main_v5, main_v8)
-- ==== Pre_finite_ReferenceIdeal.lean ====
abbrev S2x2048x512 : Shape := ⟨3, ![2, 2048, 512]⟩
abbrev S512x256 : Shape := ⟨2, ![512, 256]⟩
abbrev S2x2048x4x64 : Shape := ⟨4, ![2, 2048, 4, 64]⟩
abbrev S256x512 : Shape := ⟨2, ![256, 512]⟩
abbrev S_ : Shape := ⟨0, ![]⟩

class Facts : Prop where
  bcast_S_S2x2048x512 : S_.BroadcastsInDim S2x2048x512 (![] : Fin 0 → Fin S2x2048x512.rank)
  bcast_S_S512x256 : S_.BroadcastsInDim S512x256 (![] : Fin 0 → Fin S512x256.rank)
  bcast_S_S2x2048x4x64 : S_.BroadcastsInDim S2x2048x4x64 (![] : Fin 0 → Fin S2x2048x4x64.rank)

variable [Facts]

def fn {F : FTy → Type} [FloatOps F] (main_arg0 : FVec F S2x2048x512 .f32) (main_arg1 : FVec F S512x256 .f32) (main_arg2 : FVec F S2x2048x4x64 .f32) (main_arg3 : FVec F S2x2048x4x64 .f32) (main_arg4 : FVec F S256x512 .f32) : IVec S2x2048x512 1 × IVec S512x256 1 × IVec S2x2048x4x64 1 :=
  let main_v0 : FVec F S2x2048x512 .f32 := Host.absf main_arg0
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  let main_v3 : FVec F S512x256 .f32 := Host.absf main_arg1
  let main_cst_0 : FVec F S_ .f32 := constant S_ .f32 0x7F800000#32
  let main_v4 : FVec F S512x256 .f32 := broadcastInDim S512x256 ![] bcast_S_S512x256 main_cst_0
  let main_v5 : IVec S512x256 1 := cmpf .olt main_v3 main_v4
  let main_v6 : FVec F S2x2048x4x64 .f32 := Host.absf main_arg2
  let main_cst_1 : FVec F S_ .f32 := constant S_ .f32 0x7F800000#32
  let main_v7 : FVec F S2x2048x4x64 .f32 := broadcastInDim S2x2048x4x64 ![] bcast_S_S2x2048x4x64 main_cst_1
  let main_v8 : IVec S2x2048x4x64 1 := cmpf .olt main_v6 main_v7
  (main_v2, main_v5, main_v8)
-- ==== Kernel.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S2x128x256 : Shape := ⟨3, ![2, 128, 256]⟩
abbrev S2x2x128x256 : Shape := ⟨4, ![2, 2, 128, 256]⟩
abbrev S8 : Shape := ⟨1, ![8]⟩
abbrev S2 : Shape := ⟨1, ![2]⟩
abbrev S1x2x128x256 : Shape := ⟨4, ![1, 2, 128, 256]⟩
abbrev S_ : Shape := ⟨0, ![]⟩
abbrev S2x128x1x64 : Shape := ⟨4, ![2, 128, 1, 64]⟩
abbrev S2x128x64 : Shape := ⟨3, ![2, 128, 64]⟩
abbrev S1 : Shape := ⟨1, ![1]⟩
abbrev S1x1x128x256 : Shape := ⟨4, ![1, 1, 128, 256]⟩
abbrev S128x256 : Shape := ⟨2, ![128, 256]⟩
abbrev S1x128x256 : Shape := ⟨3, ![1, 128, 256]⟩
abbrev S256x256 : Shape := ⟨2, ![256, 256]⟩
abbrev S128x128 : Shape := ⟨2, ![128, 128]⟩
abbrev S128x384 : Shape := ⟨2, ![128, 384]⟩
abbrev S384x256 : Shape := ⟨2, ![384, 256]⟩
abbrev S128x64 : Shape := ⟨2, ![128, 64]⟩
abbrev S384x64 : Shape := ⟨2, ![384, 64]⟩
abbrev S128 : Shape := ⟨1, ![128]⟩
abbrev S128x1 : Shape := ⟨2, ![128, 1]⟩
abbrev S128x512 : Shape := ⟨2, ![128, 512]⟩
abbrev S1x128x512 : Shape := ⟨3, ![1, 128, 512]⟩

abbrev nBuf : Space → Nat
  | .hbm => 6
  | .vmem => 10
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S2x128x4x64, .f32⟩
  | .hbm, ⟨3, _⟩ => ⟨S2x128x4x64, .f32⟩
  | .hbm, ⟨4, _⟩ => ⟨S256x512, .f32⟩
  | .hbm, ⟨5, _⟩ => ⟨S2x128x512, .f32⟩
  | .local _ .vmem, ⟨0, _⟩ => ⟨S2x128x512, .f32⟩
  | .local _ .vmem, ⟨1, _⟩ => ⟨S512x256, .f32⟩
  | .local _ .vmem, ⟨2, _⟩ => ⟨S2x128x4x64, .f32⟩
  | .local _ .vmem, ⟨3, _⟩ => ⟨S2x128x4x64, .f32⟩
  | .local _ .vmem, ⟨4, _⟩ => ⟨S256x512, .f32⟩
  | .local _ .vmem, ⟨5, _⟩ => ⟨S2x128x256, .bf16⟩
  | .local _ .vmem, ⟨6, _⟩ => ⟨S2x128x256, .bf16⟩
  | .local _ .vmem, ⟨7, _⟩ => ⟨S2x2x128x256, .bf16⟩
  | .local _ .vmem, ⟨8, _⟩ => ⟨S2x2x128x256, .bf16⟩
  | .local _ .vmem, ⟨9, _⟩ => ⟨S2x128x512, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 1 23 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v14 : BitVec 32 := Scalar.extui v5
  let c0_i32_5 : BitVec 32 := 0#32
  let v15 : BitVec 1 := Scalar.cmpi .ne v14 c0_i32_5
  v15

def k0_dev1 (d0 : Dev nD) : Nat :=
  let c0_i32_210 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c1_i32_209 : BitVec 32 := 1#32
  let v321 : BitVec 32 := Scalar.muli v3 c1_i32_209
  let v322 : BitVec 32 := Scalar.addi c0_i32_210 v321
  v322.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v6 : BitVec 1 := Scalar.cmpi .slt v2 c15_i32
  let v16 : BitVec 32 := Scalar.extui v6
  let c0_i32_6 : BitVec 32 := 0#32
  let v17 : BitVec 1 := Scalar.cmpi .ne v16 c0_i32_6
  v17

def k0_dev2 (d0 : Dev nD) : Nat :=
  let c0_i32_210 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v4 : BitVec 32 := Scalar.addi v2 c1_i32_1
  let c1_i32_209 : BitVec 32 := 1#32
  let v321 : BitVec 32 := Scalar.muli v4 c1_i32_209
  let v322 : BitVec 32 := Scalar.addi c0_i32_210 v321
  v322.toNat
def k0_amt1 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v66 : BitVec 32 := Scalar.extui v5
  let c15_i32 : BitVec 32 := 15#32
  let v6 : BitVec 1 := Scalar.cmpi .slt v2 c15_i32
  let v67 : BitVec 32 := Scalar.extui v6
  let v68 : BitVec 32 := Scalar.addi v66 v67
  v68

def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v6 : BitVec 1 := Scalar.cmpi .slt v2 c15_i32
  let v69 : BitVec 32 := Scalar.extui v6
  let c0_i32_57 : BitVec 32 := 0#32
  let v70 : BitVec 1 := Scalar.cmpi .ne v69 c0_i32_57
  v70

def k0_dev3 (d0 : Dev nD) : Nat :=
  let c0_i32_214 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v4 : BitVec 32 := Scalar.addi v2 c1_i32_1
  let c1_i32_213 : BitVec 32 := 1#32
  let v321 : BitVec 32 := Scalar.muli v4 c1_i32_213
  let v322 : BitVec 32 := Scalar.addi c0_i32_214 v321
  v322.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v71 : BitVec 32 := Scalar.extui v5
  let c0_i32_58 : BitVec 32 := 0#32
  let v72 : BitVec 1 := Scalar.cmpi .ne v71 c0_i32_58
  v72

def k0_dev4 (d0 : Dev nD) : Nat :=
  let c0_i32_214 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c1_i32_213 : BitVec 32 := 1#32
  let v321 : BitVec 32 := Scalar.muli v3 c1_i32_213
  let v322 : BitVec 32 := Scalar.addi c0_i32_214 v321
  v322.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v6 : BitVec 1 := Scalar.cmpi .slt v2 c15_i32
  let v73 : BitVec 32 := Scalar.extui v6
  let c0_i32_59 : BitVec 32 := 0#32
  let v74 : BitVec 1 := Scalar.cmpi .ne v73 c0_i32_59
  v74

def k0_dev5 (d0 : Dev nD) : Nat :=
  let c0_i32_213 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v4 : BitVec 32 := Scalar.addi v2 c1_i32_1
  let c1_i32_212 : BitVec 32 := 1#32
  let v321 : BitVec 32 := Scalar.muli v4 c1_i32_212
  let v322 : BitVec 32 := Scalar.addi c0_i32_213 v321
  v322.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v75 : BitVec 32 := Scalar.extui v5
  let c0_i32_60 : BitVec 32 := 0#32
  let v76 : BitVec 1 := Scalar.cmpi .ne v75 c0_i32_60
  v76

def k0_dev6 (d0 : Dev nD) : Nat :=
  let c0_i32_213 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c1_i32_212 : BitVec 32 := 1#32
  let v321 : BitVec 32 := Scalar.muli v3 c1_i32_212
  let v322 : BitVec 32 := Scalar.addi c0_i32_213 v321
  v322.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v6 : BitVec 1 := Scalar.cmpi .slt v2 c15_i32
  let v77 : BitVec 32 := Scalar.extui v6
  let c0_i32_61 : BitVec 32 := 0#32
  let v78 : BitVec 1 := Scalar.cmpi .ne v77 c0_i32_61
  v78

def k0_dev7 (d0 : Dev nD) : Nat :=
  let c0_i32_213 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v4 : BitVec 32 := Scalar.addi v2 c1_i32_1
  let c1_i32_212 : BitVec 32 := 1#32
  let v321 : BitVec 32 := Scalar.muli v4 c1_i32_212
  let v322 : BitVec 32 := Scalar.addi c0_i32_213 v321
  v322.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v79 : BitVec 32 := Scalar.extui v5
  let c0_i32_62 : BitVec 32 := 0#32
  let v80 : BitVec 1 := Scalar.cmpi .ne v79 c0_i32_62
  v80

def k0_dev8 (d0 : Dev nD) : Nat :=
  let c0_i32_213 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c1_i32_212 : BitVec 32 := 1#32
  let v321 : BitVec 32 := Scalar.muli v3 c1_i32_212
  let v322 : BitVec 32 := Scalar.addi c0_i32_213 v321
  v322.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v6 : BitVec 1 := Scalar.cmpi .slt v2 c15_i32
  let v81 : BitVec 32 := Scalar.extui v6
  let c0_i32_63 : BitVec 32 := 0#32
  let v82 : BitVec 1 := Scalar.cmpi .ne v81 c0_i32_63
  v82

def k0_dev9 (d0 : Dev nD) : Nat :=
  let c0_i32_213 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v4 : BitVec 32 := Scalar.addi v2 c1_i32_1
  let c1_i32_212 : BitVec 32 := 1#32
  let v321 : BitVec 32 := Scalar.muli v4 c1_i32_212
  let v322 : BitVec 32 := Scalar.addi c0_i32_213 v321
  v322.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v83 : BitVec 32 := Scalar.extui v5
  let c0_i32_64 : BitVec 32 := 0#32
  let v84 : BitVec 1 := Scalar.cmpi .ne v83 c0_i32_64
  v84

def k0_dev10 (d0 : Dev nD) : Nat :=
  let c0_i32_213 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c1_i32_212 : BitVec 32 := 1#32
  let v321 : BitVec 32 := Scalar.muli v3 c1_i32_212
  let v322 : BitVec 32 := Scalar.addi c0_i32_213 v321
  v322.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2x2048x512 : Shape := ⟨3, ![2, 2048, 512]⟩
abbrev S512x256 : Shape := ⟨2, ![512, 256]⟩
abbrev S2x2048x4x64 : Shape := ⟨4, ![2, 2048, 4, 64]⟩
abbrev S256x512 : Shape := ⟨2, ![256, 512]⟩
abbrev S2x2048x256 : Shape := ⟨3, ![2, 2048, 256]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S2x4x2048x2048 : Shape := ⟨4, ![2, 4, 2048, 2048]⟩
abbrev S1x1x2048x2048 : Shape := ⟨4, ![1, 1, 2048, 2048]⟩
abbrev S2x4x2048 : Shape := ⟨3, ![2, 4, 2048]⟩
abbrev S2x4x2048x1 : Shape := ⟨4, ![2, 4, 2048, 1]⟩
abbrev S1x1x2048x1 : Shape := ⟨4, ![1, 1, 2048, 1]⟩
abbrev S2x4x64x2048 : Shape := ⟨4, ![2, 4, 64, 2048]⟩

abbrev nBuf : Space → Nat
  | .hbm => 57
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S512x256, .f32⟩
  | .hbm, ⟨2, _⟩ => ⟨S2x2048x4x64, .f32⟩
  | .hbm, ⟨3, _⟩ => ⟨S2x2048x4x64, .f32⟩
  | .hbm, ⟨4, _⟩ => ⟨S256x512, .f32⟩
  | .hbm, ⟨5, _⟩ => ⟨S2x2048x256, .f32⟩
  | .hbm, ⟨6, _⟩ => ⟨S2x2048x4x64, .f32⟩
  | .hbm, ⟨7, _⟩ => ⟨S2048, .i32⟩
  | .hbm, ⟨8, _⟩ => ⟨S2048x1, .i32⟩
  | .hbm, ⟨9, _⟩ => ⟨S2048, .i32⟩
  | .hbm, ⟨10, _⟩ => ⟨S1x2048, .i32⟩
  | .hbm, ⟨11, _⟩ => ⟨S2048x2048, .i32⟩
  | .hbm, ⟨12, _⟩ => ⟨S2048x2048, .i32⟩
  | .hbm, ⟨13, _⟩ => ⟨S2048x2048, .i32⟩
  | .hbm, ⟨14, _⟩ => ⟨S2048x2048, .i32⟩
  | .hbm, ⟨15, _⟩ => ⟨S_, .i32⟩
  | .hbm, ⟨16, _⟩ => ⟨S2048x2048, .i32⟩
  | .hbm, ⟨17, _⟩ => ⟨S2048x2048, .i1⟩
  | .hbm, ⟨18, _⟩ => ⟨S2x4x2048x2048, .f32⟩
  | .hbm, ⟨19, _⟩ => ⟨S_, .f32⟩
  | .hbm, ⟨20, _⟩ => ⟨S2x4x2048x2048, .f32⟩
  | .hbm, ⟨21, _⟩ => ⟨S2x4x2048x2048, .f32⟩
  | .hbm, ⟨22, _⟩ => ⟨S1x1x2048x2048, .i1⟩
  | .hbm, ⟨23, _⟩ => ⟨S_, .f32⟩
  | .hbm, ⟨24, _⟩ => ⟨S_, .f32⟩
  | .hbm, ⟨25, _⟩ => ⟨S2x4x2048x2048, .i1⟩
  | .hbm, ⟨26, _⟩ => ⟨S2x4x2048x2048, .f32⟩
  | .hbm, ⟨27, _⟩ => ⟨S2x4x2048x2048, .f32⟩
  | .hbm, ⟨28, _⟩ => ⟨S_, .f32⟩
  | .hbm, ⟨29, _⟩ => ⟨S2x4x2048, .f32⟩
  | .hbm, ⟨30, _⟩ => ⟨S2x4x2048x1, .f32⟩
  | .hbm, ⟨31, _⟩ => ⟨S2x4x2048x2048, .f32⟩
  | .hbm, ⟨32, _⟩ => ⟨S2x4x2048x2048, .f32⟩
  | .hbm, ⟨33, _⟩ => ⟨S2x4x2048x2048, .f32⟩
  | .hbm, ⟨34, _⟩ => ⟨S_, .i1⟩
  | .hbm, ⟨35, _⟩ => ⟨S2048, .i1⟩
  | .hbm, ⟨36, _⟩ => ⟨S1x1x2048x1, .i1⟩
  | .hbm, ⟨37, _⟩ => ⟨S_, .f32⟩
  | .hbm, ⟨38, _⟩ => ⟨S2x4x2048, .f32⟩
  | .hbm, ⟨39, _⟩ => ⟨S2x4x2048x1, .f32⟩
  | .hbm, ⟨40, _⟩ => ⟨S_, .f32⟩
  | .hbm, ⟨41, _⟩ => ⟨S_, .f32⟩
  | .hbm, ⟨42, _⟩ => ⟨S2x4x2048x1, .i1⟩
  | .hbm, ⟨43, _⟩ => ⟨S2x4x2048x1, .f32⟩
  | .hbm, ⟨44, _⟩ => ⟨S2x4x2048x1, .f32⟩
  | .hbm, ⟨45, _⟩ => ⟨S2x4x2048x2048, .f32⟩
  | .hbm, ⟨46, _⟩ => ⟨S2x4x2048x2048, .f32⟩
  | .hbm, ⟨47, _⟩ => ⟨S1x1x2048x1, .i1⟩
  | .hbm, ⟨48, _⟩ => ⟨S_, .f32⟩
  | .hbm, ⟨49, _⟩ => ⟨S_, .f32⟩
  | .hbm, ⟨50, _⟩ => ⟨S2x4x2048x2048, .i1⟩
  | .hbm, ⟨51, _⟩ => ⟨S2x4x2048x2048, .f32⟩
  | .hbm, ⟨52, _⟩ => ⟨S2x4x2048x2048, .f32⟩
  | .hbm, ⟨53, _⟩ => ⟨S2x4x64x2048, .f32⟩
  | .hbm, ⟨54, _⟩ => ⟨S2x2048x4x64, .f32⟩
  | .hbm, ⟨55, _⟩ => ⟨S2x2048x256, .f32⟩
  | .hbm, ⟨56, _⟩ => ⟨S2x2048x512, .f32⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Proof.Protocol.lean ====
/-
  The protocol of the halo-exchange attention kernel: sixteen devices in a row, each handing its key and value
  blocks to both neighbours and keeping what the neighbours hand it.

  A transfer is named by three bits: `kd` (0 keys, 1 values), `b` (the batch entry) and `s` (0 to the right
  neighbour, 1 to the left). Device `c` performs transfer `(kd, b, s)` when it has a neighbour on side `s`.

  Who waits, who pays:
  * the barrier cell of `c`: each neighbour `nbr d c` pays one unit (duty `d`) and hands over, with it, those windows of
    its own landing buffers that `c` will write (the ones `c` reaches from that side);
  * the send cell `(kd, b, s)` of `c`: `c`'s own transfer pays the block's credit and gives back the share of the source
    window that it read through;
  * the receive cell `(kd, b, s)` of `c`: the transfer of `c`'s neighbour on the OTHER side pays the block's credit and
    hands over the landing window with the neighbour's block in it;
  * the two output cells of `c`: `c`'s own copy of one batch entry of the result pays the credit and hands over the part of
    the result array written, and the part of the result buffer read.
  Every cell has one round. A device at an end of the row lacks the duties of the neighbour it does not have, and fills
  the landing windows nobody writes with zeros itself.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ValueIdxCore
public import Idealize.ShloMosaic.Lib.ValueLayout
public import Idealize.ShloMosaic.Lib.Tactic

@[expose] public section

noncomputable section

namespace Cert.HaloProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 2)
abbrev UU : Type := UR sig nD τ × UB
local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The row of devices -/

set_option backward.proofsInPublic true in
/-- The right neighbour (of the last device: the first, which nothing uses). -/
def nxt (c : Dev nD) : Dev nD := ⟨(c.val + 1) % 16, Nat.mod_lt _ (by decide)⟩
set_option backward.proofsInPublic true in
/-- The left neighbour (of the first device: the last, which nothing uses). -/
def prv (c : Dev nD) : Dev nD := ⟨(c.val + 15) % 16, Nat.mod_lt _ (by decide)⟩

theorem prv_nxt (c : Dev nD) : prv (nxt c) = c := by revert c; decide
theorem nxt_prv (c : Dev nD) : nxt (prv c) = c := by revert c; decide

def ring : Dev nD ≃ Dev nD := ⟨nxt, prv, prv_nxt, nxt_prv⟩

/-- The neighbour on side `s`: 0 right, 1 left. -/
def nbr (s : Fin 2) (c : Dev nD) : Dev nD := match s with | 0 => nxt c | 1 => prv c
/-- The other side. -/
def opp (s : Fin 2) : Fin 2 := match s with | 0 => 1 | 1 => 0
/-- Whether device `c` has a neighbour on side `s`. -/
def has (s : Fin 2) (c : Dev nD) : Bool := match s with | 0 => decide (c.val < 15) | 1 => decide (0 < c.val)

theorem opp_opp (s : Fin 2) : opp (opp s) = s := by revert s; decide
theorem nbr_opp (s : Fin 2) (c : Dev nD) : nbr (opp s) (nbr s c) = c := by revert s c; decide
theorem nbr_nbr_opp (s : Fin 2) (c : Dev nD) : nbr s (nbr (opp s) c) = c := by revert s c; decide
theorem has_nbr (s : Fin 2) (c : Dev nD) : has (opp s) (nbr s c) = has s c := by revert s c; decide

/-- Side `s` as a permutation of the devices. -/
def nbrEquiv (s : Fin 2) : Dev nD ≃ Dev nD := ⟨nbr s, nbr (opp s), nbr_opp s, nbr_nbr_opp s⟩

/-! ## The memrefs -/

theorem inbSrc (b : Fin 2) : ∀ a, (![b.val, 0, 0] : Fin 3 → Nat) a + S1x128x256.size a ≤ S2x128x256.size a := by
  revert b; decide
theorem inbWin (s b : Fin 2) : ∀ a, (![s.val, b.val, 0, 0] : Fin 4 → Nat) a + S1x1x128x256.size a ≤ S2x2x128x256.size a := by
  revert s b; decide
theorem inbSlot (s : Fin 2) : ∀ a, (![s.val, 0, 0, 0] : Fin 4 → Nat) a + S1x2x128x256.size a ≤ S2x2x128x256.size a := by
  revert s; decide
theorem inbOut (b : Fin 2) : ∀ a, (![b.val, 0, 0] : Fin 3 → Nat) a + S1x128x512.size a ≤ S2x128x512.size a := by
  revert b; decide

abbrev rSrc (b : Fin 2) : Rect S2x128x256 := Rect.unit (s := S2x128x256) ![b.val, 0, 0] S1x128x256.size (inbSrc b)
abbrev rWin (s b : Fin 2) : Rect S2x2x128x256 := Rect.unit (s := S2x2x128x256) ![s.val, b.val, 0, 0] S1x1x128x256.size (inbWin s b)
abbrev rSlot (s : Fin 2) : Rect S2x2x128x256 := Rect.unit (s := S2x2x128x256) ![s.val, 0, 0, 0] S1x2x128x256.size (inbSlot s)
abbrev rOut (b : Fin 2) : Rect S2x128x512 := Rect.unit (s := S2x128x512) ![b.val, 0, 0] S1x128x512.size (inbOut b)

/-- The buffers of keys and values a device sends from (two batch entries each). -/
abbrev srcW (kd : Fin 2) : Memref sig .tc .vmem S2x128x256 .bf16 :=
  match kd with | 0 => Memref.whole cc0_scratch0 | 1 => Memref.whole cc0_scratch1
/-- The buffers its neighbours' keys and values land in (slot 0 from the left, slot 1 from the right). -/
abbrev dstW (kd : Fin 2) : Memref sig .tc .vmem S2x2x128x256 .bf16 :=
  match kd with | 0 => Memref.whole cc0_scratch2 | 1 => Memref.whole cc0_scratch3
abbrev outW : Memref sig .tc .vmem S2x128x512 .f32 := Memref.whole cc0_scratch4
abbrev resW : Memref sig .tc .hbm S2x128x512 .f32 := Memref.whole main_v1

/-- One batch entry of a source buffer; one landing window; one batch entry of the result buffer and of the result. -/
abbrev srcM (kd b : Fin 2) : Memref sig .tc .vmem S128x256 .bf16 :=
  ((srcW kd).slice (rSrc b) (fun _ => rfl)).squeeze S128x256 squeezes_S1x128x256_S128x256
abbrev dstM (kd b s : Fin 2) : Memref sig .tc .vmem S128x256 .bf16 :=
  ((dstW kd).slice (rWin s b) (fun _ => rfl)).squeeze S128x256 squeezes_S1x1x128x256_S128x256
abbrev outM (b : Fin 2) : Memref sig .tc .vmem S128x512 .f32 :=
  (outW.slice (rOut b) (fun _ => rfl)).squeeze S128x512 squeezes_S1x128x512_S128x512
abbrev resM (b : Fin 2) : Memref sig .tc .hbm S128x512 .f32 :=
  (resW.slice (rOut b) (fun _ => rfl)).squeeze S128x512 squeezes_S1x128x512_S128x512

/-! ## The cells -/

abbrev barS : Sem sig := (SemArray.scalar (sig.barrier 0 rfl) : Sems sig S_).sem

theorem inbS8 (kd b s : Fin 2) : ∀ a, (![4 * kd.val + 2 * b.val + s.val] : Fin 1 → Nat) a + S1.size a ≤ S8.size a := by
  revert kd b s; decide
theorem inbS2 (b : Fin 2) : ∀ a, (![b.val] : Fin 1 → Nat) a + S1.size a ≤ S2.size a := by
  revert b; decide

abbrev sendS (kd b s : Fin 2) : DmaSem sig :=
  ((cc0_scratch5.slice (Rect.unit (s := S8) ![4 * kd.val + 2 * b.val + s.val] S1.size (inbS8 kd b s))).squeeze S_ squeezes_S1_S_).sem
abbrev recvS (kd b s : Fin 2) : DmaSem sig :=
  ((cc0_scratch6.slice (Rect.unit (s := S8) ![4 * kd.val + 2 * b.val + s.val] S1.size (inbS8 kd b s))).squeeze S_ squeezes_S1_S_).sem
abbrev outS (b : Fin 2) : DmaSem sig :=
  ((cc0_scratch7.slice (Rect.unit (s := S2) ![b.val] S1.size (inbS2 b))).squeeze S_ squeezes_S1_S_).sem

theorem sendS_val (kd b s : Fin 2) : (sendS kd b s).val = 5 + (4 * kd.val + 2 * b.val + s.val) := by revert kd b s; decide
theorem recvS_val (kd b s : Fin 2) : (recvS kd b s).val = 13 + (4 * kd.val + 2 * b.val + s.val) := by revert kd b s; decide
theorem outS_val (b : Fin 2) : (outS b).val = 21 + b.val := by revert b; decide

abbrev barCell (c : Dev nD) : GSem nD τ sig := ((c : Thread nD τ), .reg barS)
abbrev sendCell (c : Dev nD) (kd b s : Fin 2) : GSem nD τ sig := ((c : Thread nD τ), .dma (sendS kd b s))
abbrev recvCell (c : Dev nD) (kd b s : Fin 2) : GSem nD τ sig := ((c : Thread nD τ), .dma (recvS kd b s))
abbrev outCell (c : Dev nD) (b : Fin 2) : GSem nD τ sig := ((c : Thread nD τ), .dma (outS b))

/-- What a semaphore is for. -/
inductive Role where
  | bar | send (kd b s : Fin 2) | recv (kd b s : Fin 2) | out (b : Fin 2) | other
deriving DecidableEq

/-- The role of the DMA semaphore of each number. -/
def roleN : ℕ → Role
  | 5 => .send 0 0 0 | 6 => .send 0 0 1 | 7 => .send 0 1 0 | 8 => .send 0 1 1
  | 9 => .send 1 0 0 | 10 => .send 1 0 1 | 11 => .send 1 1 0 | 12 => .send 1 1 1
  | 13 => .recv 0 0 0 | 14 => .recv 0 0 1 | 15 => .recv 0 1 0 | 16 => .recv 0 1 1
  | 17 => .recv 1 0 0 | 18 => .recv 1 0 1 | 19 => .recv 1 1 0 | 20 => .recv 1 1 1
  | 21 => .out 0 | 22 => .out 1
  | _ => .other
def role : SemLoc sig → Role
  | .reg q => if q = barS then .bar else .other
  | .dma q => roleN q.val

theorem role_bar : role (.reg barS) = .bar := by unfold role; exact if_pos rfl
theorem role_send (kd b s : Fin 2) : role (.dma (sendS kd b s)) = .send kd b s := by
  show roleN (sendS kd b s).val = _; rw [sendS_val]; revert kd b s; decide
theorem role_recv (kd b s : Fin 2) : role (.dma (recvS kd b s)) = .recv kd b s := by
  show roleN (recvS kd b s).val = _; rw [recvS_val]; revert kd b s; decide
theorem role_out (b : Fin 2) : role (.dma (outS b)) = .out b := by
  show roleN (outS b).val = _; rw [outS_val]; revert b; decide

/-- The credit of one transferred block and of one batch entry of the result. -/
abbrev N : ℕ := (srcM 0 0).view.dmaCredit
abbrev NO : ℕ := (resM 0).view.dmaCredit
theorem N_pos : 0 < N := View.dmaCredit_pos _ (by decide)
theorem NO_pos : 0 < NO := View.dmaCredit_pos _ (by decide)
theorem N_src (kd b : Fin 2) : (srcM kd b).view.dmaCredit = N := by
  match kd, b with | 0, 0 => rfl | 0, 1 => rfl | 1, 0 => rfl | 1, 1 => rfl
theorem N_dst (kd b s : Fin 2) : (dstM kd b s).view.dmaCredit = N := by
  match kd, b, s with
  | 0, 0, 0 => rfl | 0, 1, 0 => rfl | 1, 0, 0 => rfl | 1, 1, 0 => rfl
  | 0, 0, 1 => rfl | 0, 1, 1 => rfl | 1, 0, 1 => rfl | 1, 1, 1 => rfl
theorem NO_res (b : Fin 2) : (resM b).view.dmaCredit = NO := by
  match b with | 0 => rfl | 1 => rfl

end Cert.HaloProof

end
-- ==== Proof.Schedule.lean ====
/-
  What the buffers hold along the run, and the schedule of the cells: who pays which duty of which cell, how much, and
  what the payment hands over.
-/
module

public import proofs.«01_k».proof.Proof.Protocol

@[expose] public section

noncomputable section

namespace Cert.HaloProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ) (ρ : Dev nD → PrngReg)

/-! ## Contents -/

/-- The five operands in their staging buffers, on device `c`. -/
def xst (c : Dev nD) : (cc0_stg0_0 : Ref sig .tc).ty.Contents (Elt F) :=
  (win0_0.blk (0 : Fin 1)).view.read (Elt F) (m ((c : Thread nD τ).loc main_arg0))
def wqst (c : Dev nD) : (cc0_stg1_0 : Ref sig .tc).ty.Contents (Elt F) :=
  (win0_1.blk (0 : Fin 1)).view.read (Elt F) (m ((c : Thread nD τ).loc main_arg1))
def kst (c : Dev nD) : (cc0_stg2_0 : Ref sig .tc).ty.Contents (Elt F) :=
  (win0_2.blk (0 : Fin 1)).view.read (Elt F) (m ((c : Thread nD τ).loc main_arg2))
def vst (c : Dev nD) : (cc0_stg3_0 : Ref sig .tc).ty.Contents (Elt F) :=
  (win0_3.blk (0 : Fin 1)).view.read (Elt F) (m ((c : Thread nD τ).loc main_arg3))
def wost (c : Dev nD) : (cc0_stg4_0 : Ref sig .tc).ty.Contents (Elt F) :=
  (win0_4.blk (0 : Fin 1)).view.read (Elt F) (m ((c : Thread nD τ).loc main_arg4))

/-- Column `e` of a row of 256 as (head, entry of the head). -/
def headOf (e : Fin 256) : Fin 4 := ⟨e.val / 64, by omega⟩
def laneOf (e : Fin 256) : Fin 64 := ⟨e.val % 64, by omega⟩

/-- The four heads of a key or value block side by side, rounded to bf16. -/
def castH (k : S2x128x4x64.Idx → F .f32) : S2x128x256.Idx → F .bf16 :=
  fun i => FloatOps.truncf .bf16 bitsLt_bf16_f32 (k (ix4 (i 0) (i 1) (headOf (i 2)) (laneOf (i 2))))

/-- The keys (`kd = 0`) and the values (`kd = 1`) of device `c`, as it sends them. -/
def kvs (kd : Fin 2) (c : Dev nD) : S2x128x256.Idx → F .bf16 :=
  match kd with | 0 => castH (kst m c) | 1 => castH (vst m c)

/-- What device `c`'s landing buffer holds: in slot 0 the left neighbour's block, in slot 1 the right neighbour's, zeros
    where there is no neighbour. -/
def halo (kd : Fin 2) (c : Dev nD) : S2x2x128x256.Idx → F .bf16 :=
  fun i => if has (opp (i 0)) c = true then kvs m kd (nbr (opp (i 0)) c) (ix3 (i 1) (i 2) (i 3)) else Scalar.ofBits .bf16 0x0000#16

/-- A block as the contents of a source buffer, and of a landing buffer. -/
def inSrc (kd : Fin 2) (h : S2x128x256.Idx → F .bf16) : (srcW kd).view.ty.Contents (Elt F) :=
  match kd with | 0 => h | 1 => h
def inDst (kd : Fin 2) (h : S2x2x128x256.Idx → F .bf16) : (dstW kd).view.ty.Contents (Elt F) :=
  match kd with | 0 => h | 1 => h

abbrev srcC (kd : Fin 2) (c : Dev nD) : (srcW kd).view.ty.Contents (Elt F) := inSrc kd (kvs m kd c)
abbrev dstC (kd : Fin 2) (c : Dev nD) : (dstW kd).view.ty.Contents (Elt F) := inDst kd (halo m kd c)

/-- The kernel's two tests, as the words it computes: is there a left neighbour, a right one. -/
def w5 (c : Dev nD) : BitVec 1 := Scalar.cmpi .sgt (Scalar.remsi (Scalar.divsi (Dev.word c) 1#32) 16#32) 0#32
def w6 (c : Dev nD) : BitVec 1 := Scalar.cmpi .slt (Scalar.remsi (Scalar.divsi (Dev.word c) 1#32) 16#32) 15#32

/-- One batch entry of a source buffer, and one landing window, as the kernel loads them. -/
def rdS (kd b : Fin 2) (c : Dev nD) : S1x128x256.Idx → F .bf16 :=
  match kd with
  | 0 => (Memref.whole cc0_scratch0).view.readAt (Elt F) (rSrc b).toLoadRect (kvs m 0 c)
  | 1 => (Memref.whole cc0_scratch1).view.readAt (Elt F) (rSrc b).toLoadRect (kvs m 1 c)
def rdD (kd b s : Fin 2) (c : Dev nD) : S1x1x128x256.Idx → F .bf16 :=
  match kd with
  | 0 => (Memref.whole cc0_scratch2).view.readAt (Elt F) (rWin s b).toLoadRect (halo m 0 c)
  | 1 => (Memref.whole cc0_scratch3).view.readAt (Elt F) (rWin s b).toLoadRect (halo m 1 c)
/-- The whole blocks of `x` and of the two weights, as loaded. -/
def rdX (c : Dev nD) : S2x128x512.Idx → F .f32 :=
  (Memref.whole cc0_stg0_0).view.readAt (Elt F)
    (Rect.unit (s := S2x128x512) ![0, 0, 0] S2x128x512.size inb_S2x128x512_S2x128x512_0_0_0).toLoadRect (xst m c)
def rdWq (c : Dev nD) : S512x256.Idx → F .f32 :=
  (Memref.whole cc0_stg1_0).view.readAt (Elt F)
    (Rect.unit (s := S512x256) ![0, 0] S512x256.size inb_S512x256_S512x256_0_0).toLoadRect (wqst m c)
def rdWo (c : Dev nD) : S256x512.Idx → F .f32 :=
  (Memref.whole cc0_stg4_0).view.readAt (Elt F)
    (Rect.unit (s := S256x512) ![0, 0] S256x512.size inb_S256x512_S256x512_0_0).toLoadRect (wost m c)

/-- The queries (scaled), the mask of the window of 384 keys. -/
def qAll (c : Dev nD) : FVec F S256x256 .f32 := k0_pay14 (rdX m c) (rdWq m c)
def msk (c : Dev nD) : IVec S128x384 1 := k0_pay15 (w5 c) (w6 c)
def cst0 : FVec F S128x384 .f32 := constant S128x384 .f32 0x00000000#32

/-- The keys of batch entry 0 and 1: left neighbour's, own, right neighbour's. -/
def kc0 (c : Dev nD) : FVec F S384x256 .bf16 := k0_pay16 (rdD m 0 0 0 c) (rdS m 0 0 c) (rdD m 0 0 1 c)
def kc1 (c : Dev nD) : FVec F S384x256 .bf16 := k0_pay32 (rdD m 0 1 0 c) (rdS m 0 1 c) (rdD m 0 1 1 c)

/-- The result of batch entry 0 and of batch entry 1. -/
def out0 (c : Dev nD) : FVec F S1x128x512 .f32 :=
  k0_pay31
    (k0_pay20 (msk c) (k0_pay17 (rdX m c) (rdWq m c)) (k0_pay18 (rdD m 0 0 0 c) (rdS m 0 0 c) (rdD m 0 0 1 c)) cst0)
    (k0_pay21 (msk c) (k0_pay17 (rdX m c) (rdWq m c)) (k0_pay18 (rdD m 0 0 0 c) (rdS m 0 0 c) (rdD m 0 0 1 c)) cst0)
    (k0_pay23 (qAll m c) (msk c) (kc0 m c)) (k0_pay24 (qAll m c) (msk c) (kc0 m c))
    (k0_pay26 (qAll m c) (msk c) (kc0 m c)) (k0_pay27 (qAll m c) (msk c) (kc0 m c))
    (k0_pay29 (qAll m c) (msk c) (kc0 m c)) (k0_pay30 (qAll m c) (msk c) (kc0 m c))
    (rdD m 1 0 0 c) (rdS m 1 0 c) (rdD m 1 0 1 c) (rdWo m c)
def out1 (c : Dev nD) : FVec F S1x128x512 .f32 :=
  k0_pay48
    (k0_pay34 (qAll m c) (msk c) (rdD m 0 1 0 c) (rdS m 0 1 c) (rdD m 0 1 1 c))
    (k0_pay35 (qAll m c) (msk c) (rdD m 0 1 0 c) (rdS m 0 1 c) (rdD m 0 1 1 c))
    (k0_pay39 (msk c) (k0_pay36 (qAll m c)) (k0_pay37 (rdD m 0 1 0 c) (rdS m 0 1 c) (rdD m 0 1 1 c)) cst0)
    (k0_pay40 (msk c) (k0_pay36 (qAll m c)) (k0_pay37 (rdD m 0 1 0 c) (rdS m 0 1 c) (rdD m 0 1 1 c)) cst0)
    (k0_pay42 (qAll m c) (msk c) (kc1 m c)) (k0_pay43 (qAll m c) (msk c) (kc1 m c))
    (k0_pay45 (qAll m c) (msk c) (kc1 m c)) (k0_pay46 (qAll m c) (msk c) (kc1 m c))
    (k0_pay47 (rdD m 1 1 0 c)) (rdS m 1 1 c) (rdD m 1 1 1 c) (rdWo m c)
/-- The device's result. -/
def outC (c : Dev nD) : S2x128x512.Idx → F .f32 := fun i =>
  match i 0 with
  | ⟨0, _⟩ => out0 m c (ix3 0 (i 1) (i 2))
  | ⟨_ + 1, _⟩ => out1 m c (ix3 0 (i 1) (i 2))

/-! ## Windows of the buffers, owned -/

/-- The share of a source window that the transfer to side `s` reads through; the share the kernel keeps to load from. -/
def shr (s : Fin 2) : PosShare TreeShare := match s with | 0 => fullShare.left | 1 => fullShare.right.left
def keep : PosShare TreeShare := fullShare.right.right

def srcPts (c : Dev nD) (kd b : Fin 2) (q : PosShare TreeShare) : sProp 𝕄 :=
  (srcM kd b).view.loc (c : Thread nD τ) ↦[(srcM kd b).view.set]{q} srcC m kd c
def dstPts (c : Dev nD) (kd b s : Fin 2) (f : (dstW kd).view.ty.Contents (Elt F)) : sProp 𝕄 :=
  (dstM kd b s).view.loc (c : Thread nD τ) ↦[(dstM kd b s).view.set]{fullShare} f
def outPts (c : Dev nD) (b : Fin 2) (f : outW.view.ty.Contents (Elt F)) : sProp 𝕄 :=
  (outM b).view.loc (c : Thread nD τ) ↦[(outM b).view.set]{fullShare} f
def resPts (c : Dev nD) (b : Fin 2) (f : resW.view.ty.Contents (Elt F)) : sProp 𝕄 :=
  (resM b).view.loc (c : Thread nD τ) ↦[(resM b).view.set]{fullShare} f

instance srcPts_storable (c : Dev nD) (kd b q) : BI.Storable (upEmb : UEmb _ 𝕄) (srcPts m c kd b q) := by unfold srcPts; infer_instance
omit [FloatOps F] in
instance dstPts_storable (c : Dev nD) (kd b s f) : BI.Storable (upEmb : UEmb _ 𝕄) (dstPts (F := F) c kd b s f) := by unfold dstPts; infer_instance
omit [FloatOps F] in
instance outPts_storable (c : Dev nD) (b f) : BI.Storable (upEmb : UEmb _ 𝕄) (outPts (F := F) c b f) := by unfold outPts; infer_instance
omit [FloatOps F] in
instance resPts_storable (c : Dev nD) (b f) : BI.Storable (upEmb : UEmb _ 𝕄) (resPts (F := F) c b f) := by unfold resPts; infer_instance

/-- `P` where `p` holds, nothing where it does not. -/
def when (p : Bool) (P : sProp 𝕄) : sProp 𝕄 := if p = true then P else iprop(emp)
omit [FloatOps F] in
theorem when_true {p : Bool} (h : p = true) (P : sProp 𝕄) : when p P = P := if_pos h
omit [FloatOps F] in
theorem when_false {p : Bool} (h : ¬ p = true) (P : sProp 𝕄) : when p P = iprop(emp) := if_neg h

/-- A landing window of device `c` at whatever contents. -/
def dstAny (c : Dev nD) (kd b s : Fin 2) : sProp 𝕄 := iprop(∃ f, dstPts (F := F) c kd b s f)
omit [FloatOps F] in
instance dstAny_storable (c : Dev nD) (kd b s) : BI.Storable (upEmb : UEmb _ 𝕄) (dstAny (F := F) c kd b s) := by unfold dstAny; infer_instance

/-- What the neighbour on side `d` hands device `c` with its unit: its four landing windows that `c` writes. -/
def barPay (c : Dev nD) (d : Fin 2) : sProp 𝕄 :=
  iprop(dstAny (nbr d c) 0 0 d ∗ dstAny (nbr d c) 1 0 d ∗ dstAny (nbr d c) 0 1 d ∗ dstAny (nbr d c) 1 1 d)

/-! ## The schedule -/

/-- The duties of a cell of device `c` in its one round, by the cell's role. -/
def dutiesOf (c : Dev nD) : Role → Finset (Fin 2)
  | .bar => Finset.univ.filter fun d => has d c = true
  | .send _ _ s => if has s c = true then {0} else ∅
  | .recv _ _ s => if has (opp s) c = true then {0} else ∅
  | .out _ => {0}
  | .other => ∅
def amountOf : Role → ℕ
  | .bar => 1 | .out _ => NO | _ => N
def payOf (c : Dev nD) (d : Fin 2) : Role → sProp 𝕄
  | .bar => barPay c d
  | .send kd b s => srcPts m c kd b (shr s)
  | .recv kd b s => dstPts c kd b s (dstC m kd c)
  | .out b => iprop(resPts c b (outC m c) ∗ outPts c b (outC m c))
  | .other => iprop(emp)

instance payOf_storable (c : Dev nD) (d : Fin 2) (r : Role) : BI.Storable (upEmb : UEmb _ 𝕄) (payOf m c d r) := by
  cases r <;> dsimp only [payOf] <;> (try unfold barPay) <;> infer_instance

def Rd : Rounds.Schedule (GSem nD τ sig) (Fin 2) 𝕄 where
  duties g r := if r = 0 ∧ g.1.2 = .tc then dutiesOf g.1.1 (role g.2) else ∅
  unitless _ := False
  amount g _ _ := amountOf (role g.2)
  payload g _ d := payOf m g.1.1 d (role g.2)
  amount_pos g _ _ _ := by
    cases role g.2 <;> first | exact Nat.one_pos | exact N_pos | exact NO_pos

instance Rd_payload_storable (g : GSem nD τ sig) (r : ℕ) (d : Fin 2) :
    BI.Storable (upEmb : UEmb _ 𝕄) ((Rd (F := F) m).payload g r d) := payOf_storable m _ _ _

section Tables
variable (c : Dev nD) (kd b s d : Fin 2)

theorem duties_bar : (Rd (F := F) m).duties (barCell c) 0 = Finset.univ.filter fun d => has d c = true := by
  dsimp only [Rd]; rw [if_pos ⟨rfl, rfl⟩, role_bar]; rfl
theorem duties_send : (Rd (F := F) m).duties (sendCell c kd b s) 0 = if has s c = true then {0} else ∅ := by
  dsimp only [Rd]; rw [if_pos ⟨rfl, rfl⟩, role_send]; rfl
theorem duties_recv : (Rd (F := F) m).duties (recvCell c kd b s) 0 = if has (opp s) c = true then {0} else ∅ := by
  dsimp only [Rd]; rw [if_pos ⟨rfl, rfl⟩, role_recv]; rfl
theorem duties_out : (Rd (F := F) m).duties (outCell c b) 0 = {0} := by
  dsimp only [Rd]; rw [if_pos ⟨rfl, rfl⟩, role_out]; rfl
theorem duties_later (g : GSem nD τ sig) : ∀ r, 1 ≤ r → (Rd (F := F) m).duties g r = ∅ :=
  fun r hr => by dsimp only [Rd]; rw [if_neg fun h => by omega]

theorem amount_bar : (Rd (F := F) m).amount (barCell c) 0 d = 1 := by dsimp only [Rd]; rw [role_bar]; rfl
theorem amount_send : (Rd (F := F) m).amount (sendCell c kd b s) 0 d = N := by dsimp only [Rd]; rw [role_send]; rfl
theorem amount_recv : (Rd (F := F) m).amount (recvCell c kd b s) 0 d = N := by dsimp only [Rd]; rw [role_recv]; rfl
theorem amount_out : (Rd (F := F) m).amount (outCell c b) 0 d = NO := by dsimp only [Rd]; rw [role_out]; rfl

theorem payload_bar : (Rd (F := F) m).payload (barCell c) 0 d = barPay c d := by dsimp only [Rd]; rw [role_bar]; rfl
theorem payload_send : (Rd (F := F) m).payload (sendCell c kd b s) 0 d = srcPts m c kd b (shr s) := by
  dsimp only [Rd]; rw [role_send]; rfl
theorem payload_recv : (Rd (F := F) m).payload (recvCell c kd b s) 0 d = dstPts c kd b s (dstC m kd c) := by
  dsimp only [Rd]; rw [role_recv]; rfl
theorem payload_out : (Rd (F := F) m).payload (outCell c b) 0 d = iprop(resPts c b (outC m c) ∗ outPts c b (outC m c)) := by
  dsimp only [Rd]; rw [role_out]; rfl

/-- How many neighbours device `c` has. -/
def nNbr (c : Dev nD) : ℕ := (Finset.univ.filter fun d => has d c = true).card

theorem expect_bar : (Rd (F := F) m).expect (barCell c) 0 = nNbr c := by
  unfold Schedule.expect Schedule.amountOf nNbr
  rw [duties_bar, Finset.sum_congr rfl fun d _ => amount_bar m c d, Finset.sum_const, smul_eq_mul, Nat.mul_one]
theorem expect_send (h : has s c = true) : (Rd (F := F) m).expect (sendCell c kd b s) 0 = N := by
  unfold Schedule.expect Schedule.amountOf; rw [duties_send, if_pos h, Finset.sum_singleton, amount_send]
theorem expect_recv (h : has (opp s) c = true) : (Rd (F := F) m).expect (recvCell c kd b s) 0 = N := by
  unfold Schedule.expect Schedule.amountOf; rw [duties_recv, if_pos h, Finset.sum_singleton, amount_recv]
theorem expect_out : (Rd (F := F) m).expect (outCell c b) 0 = NO := by
  unfold Schedule.expect Schedule.amountOf; rw [duties_out, Finset.sum_singleton, amount_out]

/-- All of a cell's payloads, no duty taken before. -/
theorem rest_bar : bigSep ((Rd (F := F) m).duties (barCell c) 0 \ ∅) (fun d => (Rd (F := F) m).payload (barCell c) 0 d)
    = iprop(when (has 0 c) (barPay c 0) ∗ when (has 1 c) (barPay c 1)) := by
  rw [Finset.sdiff_empty, duties_bar, bigSep_congr fun d _ => payload_bar m c d, bigSep_filter, bigSep_fin_two]; rfl
theorem rest_send (h : has s c = true) :
    bigSep ((Rd (F := F) m).duties (sendCell c kd b s) 0 \ ∅) (fun d => (Rd (F := F) m).payload (sendCell c kd b s) 0 d)
      = srcPts m c kd b (shr s) := by
  rw [Finset.sdiff_empty, duties_send, if_pos h, bigSep_singleton, payload_send]
theorem rest_recv (h : has (opp s) c = true) :
    bigSep ((Rd (F := F) m).duties (recvCell c kd b s) 0 \ ∅) (fun d => (Rd (F := F) m).payload (recvCell c kd b s) 0 d)
      = dstPts c kd b s (dstC m kd c) := by
  rw [Finset.sdiff_empty, duties_recv, if_pos h, bigSep_singleton, payload_recv]
theorem rest_out :
    bigSep ((Rd (F := F) m).duties (outCell c b) 0 \ ∅) (fun d => (Rd (F := F) m).payload (outCell c b) 0 d)
      = iprop(resPts c b (outC m c) ∗ outPts c b (outC m c)) := by
  rw [Finset.sdiff_empty, duties_out, bigSep_singleton, payload_out]

/-- A send or receive cell nobody pays has no duty in any round. -/
theorem duties_send_none (h : ¬ has s c = true) : ∀ r, 0 ≤ r → (Rd (F := F) m).duties (sendCell c kd b s) r = ∅ := by
  intro r _
  match r with
  | 0 => rw [duties_send, if_neg h]
  | r + 1 => exact duties_later m _ _ (by omega)
theorem duties_recv_none (h : ¬ has (opp s) c = true) : ∀ r, 0 ≤ r → (Rd (F := F) m).duties (recvCell c kd b s) r = ∅ := by
  intro r _
  match r with
  | 0 => rw [duties_recv, if_neg h]
  | r + 1 => exact duties_later m _ _ (by omega)

end Tables

/-! ## What a device owes; the levels -/

/-- A transfer's name: keys or values, batch entry, side. -/
abbrev T : Type := Fin 2 × Fin 2 × Fin 2

/-- What device `c` owes for one transfer, -/
def due (c : Dev nD) (t : T) : CellTallies nD τ sig Unit :=
  if has t.2.2 c = true then tallyAt (recvCell (nbr t.2.2 c) t.1 t.2.1 t.2.2) () N else 0
/-- for a list of transfers (the head is performed first), -/
def owe (c : Dev nD) : List T → CellTallies nD τ sig Unit
  | [] => 0
  | t :: l => owe c l + due c t
/-- the transfers in the order the kernel starts them, -/
def order : List T := [(0, 0, 0), (0, 0, 1), (1, 0, 0), (1, 0, 1), (0, 1, 0), (0, 1, 1), (1, 1, 0), (1, 1, 1)]
/-- for its unit to the neighbour on side `s`, -/
def dueBar (c : Dev nD) (s : Fin 2) : CellTallies nD τ sig Unit :=
  if has s c = true then tallyAt (barCell (nbr s c)) () 1 else 0
/-- and at launch. -/
def O₀ (c : Dev nD) : CellTallies nD τ sig Unit := owe c order + dueBar c 0 + dueBar c 1

def L (g : GSem nD τ sig) : Finset Unit := if g.1.2 = .tc then {()} else ∅
def lvOf : Role → ℕ | .bar => 1 | .recv _ _ _ => 2 | _ => 0
/-- Barrier cells at 1, receive cells at 2, everything else at 0. -/
def lv (g : GSem nD τ sig) (_ : Unit) : ℕ := lvOf (role g.2)

theorem L_of_ne (g : GSem nD τ sig) (h : g.1.2 ≠ .tc) : L g = ∅ := if_neg h
theorem L_tc (c : Dev nD) (sm : SemLoc sig) : L ((c : Thread nD τ), sm) = {()} := if_pos rfl

theorem due_pos {c : Dev nD} {t : T} {g : GSem nD τ sig} {u : Unit} (h : 0 < due c t g u) :
    g = recvCell (nbr t.2.2 c) t.1 t.2.1 t.2.2 := by
  unfold due at h
  split at h
  · rw [tallyAt_apply] at h
    by_contra hn
    rw [if_neg fun h' => hn h'.1] at h
    exact Nat.lt_irrefl 0 h
  · exact absurd h (Nat.lt_irrefl 0)
theorem owe_pos {c : Dev nD} {l : List T} {g : GSem nD τ sig} {u : Unit} (h : 0 < owe c l g u) :
    ∃ (n : Dev nD) (t : T), g = recvCell n t.1 t.2.1 t.2.2 := by
  induction l with
  | nil => exact absurd h (Nat.lt_irrefl 0)
  | cons t l ih =>
    have h' : 0 < owe c l g u + due c t g u := h
    rcases Nat.eq_zero_or_pos (owe c l g u) with h0 | hp
    · rw [h0, Nat.zero_add] at h'; exact ⟨_, t, due_pos h'⟩
    · exact ih hp
theorem dueBar_pos {c : Dev nD} {s : Fin 2} {g : GSem nD τ sig} {u : Unit} (h : 0 < dueBar c s g u) : g = barCell (nbr s c) := by
  unfold dueBar at h
  split at h
  · rw [tallyAt_apply] at h
    by_contra hn
    rw [if_neg fun h' => hn h'.1] at h
    exact Nat.lt_irrefl 0 h
  · exact absurd h (Nat.lt_irrefl 0)
theorem O₀_pos {c : Dev nD} {g : GSem nD τ sig} {u : Unit} (h : 0 < O₀ c g u) :
    (∃ (n : Dev nD) (t : T), g = recvCell n t.1 t.2.1 t.2.2) ∨ ∃ n : Dev nD, g = barCell n := by
  have h' : 0 < owe c order g u + dueBar c 0 g u + dueBar c 1 g u := h
  rcases Nat.eq_zero_or_pos (owe c order g u) with h0 | hp
  · rcases Nat.eq_zero_or_pos (dueBar c 0 g u) with h1 | hp1
    · rw [h0, h1, Nat.zero_add] at h'; exact .inr ⟨_, dueBar_pos h'⟩
    · exact .inr ⟨_, dueBar_pos hp1⟩
  · exact .inl (owe_pos hp)

theorem lv_recv (n : Dev nD) (t : T) (u : Unit) : lv (recvCell n t.1 t.2.1 t.2.2) u = 2 := by unfold lv; rw [role_recv]; rfl
theorem lv_bar (n : Dev nD) (u : Unit) : lv (barCell n) u = 1 := by unfold lv; rw [role_bar]; rfl

omit [FloatOps F] in
/-- Every staging wait lies below everything owed. -/
theorem mayWait_stage (c : Dev nD) (q : DmaSem sig) (hq : lvOf (roleN q.val) = 0) (O : CellTallies nD τ sig Unit)
    (hO : O = O₀ c ∨ O = 0) : (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨n, t, rfl⟩ | ⟨n, rfl⟩ <;> exact Finset.mem_singleton_self _)
      (fun p hp => by rw [Finset.mem_singleton.mp hp]; exact hq.le)
      (fun g u hg => by
        rcases O₀_pos hg with ⟨n, t, rfl⟩ | ⟨n, rfl⟩
        · rw [lv_recv]; decide
        · rw [lv_bar]; decide)
  · rw [MayWait_zero]; iintro -; iempintro

omit [FloatOps F] in
/-- The barrier wait lies below what the transfers owe. -/
theorem mayWait_bar (c : Dev nD) (l : List T) : (levAts L lv : sProp 𝕄) ⊢ MayWait (c : Thread nD τ) (.reg barS) () (owe c l) :=
  MayOwe.of_cut (L := L) (lev := lv) 1 (fun p hp => by rw [Finset.mem_singleton.mp hp, L_tc]; exact Finset.mem_singleton_self _)
    (fun g u hg => by obtain ⟨n, t, rfl⟩ := owe_pos hg; exact Finset.mem_singleton_self _)
    (fun p hp => by rw [Finset.mem_singleton.mp hp]; exact (lv_bar c _).le)
    (fun g u hg => by obtain ⟨n, t, rfl⟩ := owe_pos hg; rw [lv_recv]; decide)

end Cert.HaloProof

end
-- ==== Proof.Geometry.lean ====
/-
  How the buffers fall into windows, and what the kernel's stores and transfers write: every buffer is the disjoint union
  of its windows; a transfer's landing window receives the neighbour's block; the stores of the heads, of the zeros and of
  the result write what Schedule.lean says the buffers hold.
-/
module

public import proofs.«01_k».proof.Proof.Schedule
public import Idealize.ShloMosaic.Lib.Ring.Trips

@[expose] public section

noncomputable section

namespace Cert.HaloProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ) (ρ : Dev nD → PrngReg)

/-! ## The element sets of the windows -/

theorem mem_rSrc (b : Fin 2) (i : S2x128x256.Idx) : i ∈ (rSrc b).set ↔ (i 0).val = b.val := by
  rw [Rect.mem_set_unit]
  refine ⟨fun h => ?_, fun h a => ?_⟩
  · have h0 := h 0
    have e : (![b.val, 0, 0] : Fin 3 → Nat) 0 = b.val := rfl
    have e' : S1x128x256.size 0 = 1 := rfl
    rw [e, e'] at h0; omega
  · have h1 : (i 1).val < 128 := (i 1).isLt
    have h2 : (i 2).val < 256 := (i 2).isLt
    match a with
    | 0 => show b.val ≤ (i 0).val ∧ (i 0).val < b.val + 1; omega
    | 1 => show 0 ≤ (i 1).val ∧ (i 1).val < 0 + 128; omega
    | 2 => show 0 ≤ (i 2).val ∧ (i 2).val < 0 + 256; omega
theorem mem_rOut (b : Fin 2) (i : S2x128x512.Idx) : i ∈ (rOut b).set ↔ (i 0).val = b.val := by
  rw [Rect.mem_set_unit]
  refine ⟨fun h => ?_, fun h a => ?_⟩
  · have h0 := h 0
    have e : (![b.val, 0, 0] : Fin 3 → Nat) 0 = b.val := rfl
    have e' : S1x128x512.size 0 = 1 := rfl
    rw [e, e'] at h0; omega
  · have h1 : (i 1).val < 128 := (i 1).isLt
    have h2 : (i 2).val < 512 := (i 2).isLt
    match a with
    | 0 => show b.val ≤ (i 0).val ∧ (i 0).val < b.val + 1; omega
    | 1 => show 0 ≤ (i 1).val ∧ (i 1).val < 0 + 128; omega
    | 2 => show 0 ≤ (i 2).val ∧ (i 2).val < 0 + 512; omega
theorem mem_rSlot (s : Fin 2) (i : S2x2x128x256.Idx) : i ∈ (rSlot s).set ↔ (i 0).val = s.val := by
  rw [Rect.mem_set_unit]
  refine ⟨fun h => ?_, fun h a => ?_⟩
  · have h0 := h 0
    have e : (![s.val, 0, 0, 0] : Fin 4 → Nat) 0 = s.val := rfl
    have e' : S1x2x128x256.size 0 = 1 := rfl
    rw [e, e'] at h0; omega
  · have h1 : (i 1).val < 2 := (i 1).isLt
    have h2 : (i 2).val < 128 := (i 2).isLt
    have h3 : (i 3).val < 256 := (i 3).isLt
    match a with
    | 0 => show s.val ≤ (i 0).val ∧ (i 0).val < s.val + 1; omega
    | 1 => show 0 ≤ (i 1).val ∧ (i 1).val < 0 + 2; omega
    | 2 => show 0 ≤ (i 2).val ∧ (i 2).val < 0 + 128; omega
    | 3 => show 0 ≤ (i 3).val ∧ (i 3).val < 0 + 256; omega
theorem mem_rWin (s b : Fin 2) (i : S2x2x128x256.Idx) : i ∈ (rWin s b).set ↔ (i 0).val = s.val ∧ (i 1).val = b.val := by
  rw [Rect.mem_set_unit]
  refine ⟨fun h => ?_, fun h a => ?_⟩
  · have h0 := h 0
    have h1 := h 1
    have e : (![s.val, b.val, 0, 0] : Fin 4 → Nat) 0 = s.val := rfl
    have e1 : (![s.val, b.val, 0, 0] : Fin 4 → Nat) 1 = b.val := rfl
    have e' : S1x1x128x256.size 0 = 1 := rfl
    have e1' : S1x1x128x256.size 1 = 1 := rfl
    rw [e, e'] at h0; rw [e1, e1'] at h1; omega
  · have h2 : (i 2).val < 128 := (i 2).isLt
    have h3 : (i 3).val < 256 := (i 3).isLt
    match a with
    | 0 => show s.val ≤ (i 0).val ∧ (i 0).val < s.val + 1; omega
    | 1 => show b.val ≤ (i 1).val ∧ (i 1).val < b.val + 1; omega
    | 2 => show 0 ≤ (i 2).val ∧ (i 2).val < 0 + 128; omega
    | 3 => show 0 ≤ (i 3).val ∧ (i 3).val < 0 + 256; omega

theorem src_set0 (b : Fin 2) : (srcM 0 b).view.set = (rSrc b).set := by
  show ((((Memref.whole cc0_scratch0).view).slice (rSrc b)).reshape _ _).set = _
  rw [View.set_reshape]; exact View.set_slice_whole _ _
theorem src_set1 (b : Fin 2) : (srcM 1 b).view.set = (rSrc b).set := by
  show ((((Memref.whole cc0_scratch1).view).slice (rSrc b)).reshape _ _).set = _
  rw [View.set_reshape]; exact View.set_slice_whole _ _
theorem dst_set0 (b s : Fin 2) : (dstM 0 b s).view.set = (rWin s b).set := by
  show ((((Memref.whole cc0_scratch2).view).slice (rWin s b)).reshape _ _).set = _
  rw [View.set_reshape]; exact View.set_slice_whole _ _
theorem dst_set1 (b s : Fin 2) : (dstM 1 b s).view.set = (rWin s b).set := by
  show ((((Memref.whole cc0_scratch3).view).slice (rWin s b)).reshape _ _).set = _
  rw [View.set_reshape]; exact View.set_slice_whole _ _
theorem out_set (b : Fin 2) : (outM b).view.set = (rOut b).set := by
  show ((((Memref.whole cc0_scratch4).view).slice (rOut b)).reshape _ _).set = _
  rw [View.set_reshape]; exact View.set_slice_whole _ _
theorem res_set (b : Fin 2) : (resM b).view.set = (rOut b).set := by
  show ((((Memref.whole main_v1).view).slice (rOut b)).reshape _ _).set = _
  rw [View.set_reshape]; exact View.set_slice_whole _ _

/-! ## Splitting a buffer into its windows -/

omit [FloatOps F] in
/-- A buffer owned whole is its two halves by a function into `Fin 2`. -/
theorem split2 {ℓ : Loc nD τ sig} {q : PosShare TreeShare} (f : Buf (Elt F) ℓ) (A : Fin 2 → Finset (Idx ℓ)) (p : Idx ℓ → ℕ)
    (hp : ∀ i, p i < 2) (hA : ∀ b i, i ∈ A b ↔ p i = b.val) :
    (ℓ ↦{q} f : sProp 𝕄) = iprop((ℓ ↦[A 0]{q} f) ∗ ℓ ↦[A 1]{q} f) := by
  have hu : (Finset.univ : Finset (Idx ℓ)) = (Finset.univ : Finset (Fin 2)).biUnion A := by
    ext i
    simp only [Finset.mem_univ, Finset.mem_biUnion, true_and, true_iff]
    exact ⟨⟨p i, hp i⟩, (hA _ _).mpr rfl⟩
  rw [show (ℓ ↦{q} f : sProp 𝕄) = (ℓ ↦[(Finset.univ : Finset (Fin 2)).biUnion A]{q} f) from by rw [← hu],
    pointsTo_biUnion Finset.univ A (fun t _ t' _ hne => Finset.disjoint_left.mpr fun i hi hi' => hne (Fin.ext (by
      rw [← (hA _ _).mp hi, ← (hA _ _).mp hi']))), bigSep_fin_two]
  rfl

omit [FloatOps F] in
/-- A buffer owned whole is its four quarters by a function into `Fin 2 × Fin 2`. -/
theorem split4 {ℓ : Loc nD τ sig} {q : PosShare TreeShare} (f : Buf (Elt F) ℓ) (A : Fin 2 → Fin 2 → Finset (Idx ℓ)) (p p' : Idx ℓ → ℕ)
    (hp : ∀ i, p i < 2) (hp' : ∀ i, p' i < 2) (hA : ∀ s b i, i ∈ A s b ↔ p i = s.val ∧ p' i = b.val) :
    (ℓ ↦{q} f : sProp 𝕄) = iprop(((ℓ ↦[A 0 0]{q} f) ∗ ℓ ↦[A 0 1]{q} f) ∗ (ℓ ↦[A 1 0]{q} f) ∗ ℓ ↦[A 1 1]{q} f) := by
  have hu : (Finset.univ : Finset (Idx ℓ)) = (Finset.univ : Finset (Fin 2 × Fin 2)).biUnion fun t => A t.1 t.2 := by
    ext i
    simp only [Finset.mem_univ, Finset.mem_biUnion, true_and, true_iff]
    exact ⟨(⟨p i, hp i⟩, ⟨p' i, hp' i⟩), (hA _ _ _).mpr ⟨rfl, rfl⟩⟩
  rw [show (ℓ ↦{q} f : sProp 𝕄) = (ℓ ↦[(Finset.univ : Finset (Fin 2 × Fin 2)).biUnion fun t => A t.1 t.2]{q} f) from by rw [← hu],
    pointsTo_biUnion Finset.univ _ (fun t _ t' _ hne => Finset.disjoint_left.mpr fun i hi hi' => hne (Prod.ext
      (Fin.ext (by rw [← ((hA _ _ _).mp hi).1, ← ((hA _ _ _).mp hi').1]))
      (Fin.ext (by rw [← ((hA _ _ _).mp hi).2, ← ((hA _ _ _).mp hi').2])))),
    bigSep_univ_prod, bigSep_fin_two, bigSep_fin_two, bigSep_fin_two]
  rfl

/-- The buffer of keys (values) to send is its two batch entries. -/
theorem src_split0 (c : Dev nD) (q : PosShare TreeShare) :
    (((c : Thread nD τ).loc cc0_scratch0) ↦{q} kvs m 0 c : sProp 𝕄) = iprop(srcPts m c 0 0 q ∗ srcPts m c 0 1 q) := by
  refine (split2 (F := F) (ℓ := (c : Thread nD τ).loc cc0_scratch0) (q := q) (kvs m 0 c) (fun b => (rSrc b).set)
    (fun i => ((i : S2x128x256.Idx) 0).val) (fun i => ((i : S2x128x256.Idx) 0).isLt) (fun b i => mem_rSrc b i)).trans ?_
  unfold srcPts
  rw [src_set0, src_set0]; rfl
theorem src_split1 (c : Dev nD) (q : PosShare TreeShare) :
    (((c : Thread nD τ).loc cc0_scratch1) ↦{q} kvs m 1 c : sProp 𝕄) = iprop(srcPts m c 1 0 q ∗ srcPts m c 1 1 q) := by
  refine (split2 (F := F) (ℓ := (c : Thread nD τ).loc cc0_scratch1) (q := q) (kvs m 1 c) (fun b => (rSrc b).set)
    (fun i => ((i : S2x128x256.Idx) 0).val) (fun i => ((i : S2x128x256.Idx) 0).isLt) (fun b i => mem_rSrc b i)).trans ?_
  unfold srcPts
  rw [src_set1, src_set1]; rfl
omit [FloatOps F] in
/-- The landing buffer of keys (values) is its four windows. -/
theorem dst_split0 (c : Dev nD) (f : S2x2x128x256.Idx → F .bf16) :
    (((c : Thread nD τ).loc cc0_scratch2) ↦{fullShare} f : sProp 𝕄)
      = iprop((dstPts c 0 0 0 (inDst 0 f) ∗ dstPts c 0 1 0 (inDst 0 f)) ∗ dstPts c 0 0 1 (inDst 0 f) ∗ dstPts c 0 1 1 (inDst 0 f)) := by
  refine (split4 (F := F) (ℓ := (c : Thread nD τ).loc cc0_scratch2) (q := fullShare) f (fun s b => (rWin s b).set)
    (fun i => ((i : S2x2x128x256.Idx) 0).val) (fun i => ((i : S2x2x128x256.Idx) 1).val)
    (fun i => ((i : S2x2x128x256.Idx) 0).isLt) (fun i => ((i : S2x2x128x256.Idx) 1).isLt) (fun s b i => mem_rWin s b i)).trans ?_
  unfold dstPts
  rw [dst_set0, dst_set0, dst_set0, dst_set0]; rfl
omit [FloatOps F] in
theorem dst_split1 (c : Dev nD) (f : S2x2x128x256.Idx → F .bf16) :
    (((c : Thread nD τ).loc cc0_scratch3) ↦{fullShare} f : sProp 𝕄)
      = iprop((dstPts c 1 0 0 (inDst 1 f) ∗ dstPts c 1 1 0 (inDst 1 f)) ∗ dstPts c 1 0 1 (inDst 1 f) ∗ dstPts c 1 1 1 (inDst 1 f)) := by
  refine (split4 (F := F) (ℓ := (c : Thread nD τ).loc cc0_scratch3) (q := fullShare) f (fun s b => (rWin s b).set)
    (fun i => ((i : S2x2x128x256.Idx) 0).val) (fun i => ((i : S2x2x128x256.Idx) 1).val)
    (fun i => ((i : S2x2x128x256.Idx) 0).isLt) (fun i => ((i : S2x2x128x256.Idx) 1).isLt) (fun s b i => mem_rWin s b i)).trans ?_
  unfold dstPts
  rw [dst_set1, dst_set1, dst_set1, dst_set1]; rfl
omit [FloatOps F] in
/-- The result buffer, and the result, are their two batch entries. -/
theorem out_split (c : Dev nD) (f : S2x128x512.Idx → F .f32) :
    (((c : Thread nD τ).loc cc0_scratch4) ↦{fullShare} f : sProp 𝕄) = iprop(outPts c 0 f ∗ outPts c 1 f) := by
  refine (split2 (F := F) (ℓ := (c : Thread nD τ).loc cc0_scratch4) (q := fullShare) f (fun b => (rOut b).set)
    (fun i => ((i : S2x128x512.Idx) 0).val) (fun i => ((i : S2x128x512.Idx) 0).isLt) (fun b i => mem_rOut b i)).trans ?_
  unfold outPts
  rw [out_set, out_set]
omit [FloatOps F] in
theorem res_split (c : Dev nD) (f : S2x128x512.Idx → F .f32) :
    (((c : Thread nD τ).loc main_v1) ↦{fullShare} f : sProp 𝕄) = iprop(resPts c 0 f ∗ resPts c 1 f) := by
  refine (split2 (F := F) (ℓ := (c : Thread nD τ).loc main_v1) (q := fullShare) f (fun b => (rOut b).set)
    (fun i => ((i : S2x128x512.Idx) 0).val) (fun i => ((i : S2x128x512.Idx) 0).isLt) (fun b i => mem_rOut b i)).trans ?_
  unfold resPts
  rw [res_set, res_set]

/-- A source window in full is the shares of the two transfers and the share kept. -/
theorem src_thirds (c : Dev nD) (kd b : Fin 2) :
    srcPts m c kd b fullShare ⊣⊢ iprop(srcPts m c kd b (shr 0) ∗ srcPts m c kd b (shr 1) ∗ srcPts m c kd b keep) :=
  Ring.pointsTo_thirds _ _

/-! ## Congruence on a window -/

omit [FloatOps F] in
theorem dstPts_congr (c : Dev nD) (kd b s : Fin 2) (f g : S2x2x128x256.Idx → F .bf16)
    (h : ∀ i ∈ (rWin s b).set, f i = g i) : dstPts c kd b s (inDst kd f) = dstPts c kd b s (inDst kd g) := by
  unfold dstPts
  match kd with
  | 0 => rw [dst_set0]; exact pointsTo_congr fun i hi => h i hi
  | 1 => rw [dst_set1]; exact pointsTo_congr fun i hi => h i hi
omit [FloatOps F] in
theorem outPts_congr (c : Dev nD) (b : Fin 2) (f g : S2x128x512.Idx → F .f32)
    (h : ∀ i ∈ (rOut b).set, f i = g i) : outPts c b f = outPts c b g := by
  unfold outPts
  rw [out_set]; exact pointsTo_congr fun i hi => h i hi

/-! ## What the transfers write -/

theorem src_emb0 (b : Fin 2) (x : Fin 128) (y : Fin 256) : (srcM 0 b).view.emb (ix2 x y) = ix3 b x y := by
  show (rSrc b).emb (Shape.reshapeEquiv _ (ix2 x y)) = _
  rw [reshapeEquiv_ix2_1ab]
  funext a; apply Fin.ext
  match a with
  | 0 => show b.val + 1 * 0 = b.val; omega
  | 1 => show 0 + 1 * x.val = x.val; omega
  | 2 => show 0 + 1 * y.val = y.val; omega
theorem src_emb1 (b : Fin 2) (x : Fin 128) (y : Fin 256) : (srcM 1 b).view.emb (ix2 x y) = ix3 b x y := src_emb0 b x y
theorem dst_emb0 (b s : Fin 2) (x : Fin 128) (y : Fin 256) : (dstM 0 b s).view.emb (ix2 x y) = ix4 s b x y := by
  show (rWin s b).emb (Shape.reshapeEquiv _ (ix2 x y)) = _
  rw [reshapeEquiv_ix2_11ab]
  funext a; apply Fin.ext
  match a with
  | 0 => show s.val + 1 * 0 = s.val; omega
  | 1 => show b.val + 1 * 0 = b.val; omega
  | 2 => show 0 + 1 * x.val = x.val; omega
  | 3 => show 0 + 1 * y.val = y.val; omega
theorem dst_emb1 (b s : Fin 2) (x : Fin 128) (y : Fin 256) : (dstM 1 b s).view.emb (ix2 x y) = ix4 s b x y := dst_emb0 b s x y
theorem out_emb (b : Fin 2) (x : Fin 128) (y : Fin 512) : (outM b).view.emb (ix2 x y) = ix3 b x y := by
  show (rOut b).emb (Shape.reshapeEquiv _ (ix2 x y)) = _
  rw [reshapeEquiv_ix2_1ab]
  funext a; apply Fin.ext
  match a with
  | 0 => show b.val + 1 * 0 = b.val; omega
  | 1 => show 0 + 1 * x.val = x.val; omega
  | 2 => show 0 + 1 * y.val = y.val; omega
theorem res_emb (b : Fin 2) (x : Fin 128) (y : Fin 512) : (resM b).view.emb (ix2 x y) = ix3 b x y := out_emb b x y

theorem halo_nbr (kd s : Fin 2) (c : Dev nD) (hs : has s c = true) (i : S2x2x128x256.Idx) (h0 : (i 0).val = s.val) :
    halo m kd (nbr s c) i = kvs m kd c (ix3 (i 1) (i 2) (i 3)) := by
  have e : i 0 = s := Fin.ext h0
  unfold halo
  rw [e, has_nbr, if_pos hs, nbr_opp]

theorem halo_none (kd s : Fin 2) (c : Dev nD) (hs : ¬ has (opp s) c = true) (i : S2x2x128x256.Idx) (h0 : (i 0).val = s.val) :
    halo m kd c i = Scalar.ofBits .bf16 0x0000#16 := by
  have e : i 0 = s := Fin.ext h0
  unfold halo
  rw [e, if_neg hs]

theorem win_ix (s b : Fin 2) (i : S2x2x128x256.Idx) (hi : i ∈ (rWin s b).set) : ∃ (x : Fin 128) (y : Fin 256), i = ix4 s b x y := by
  obtain ⟨h0, h1⟩ := (mem_rWin s b i).mp hi
  exact ⟨i 2, i 3, by rw [← (Fin.ext h0 : i 0 = s), ← (Fin.ext h1 : i 1 = b)]; exact eq_ix4 i⟩
theorem out_ix (b : Fin 2) (i : S2x128x512.Idx) (hi : i ∈ (rOut b).set) : ∃ (x : Fin 128) (y : Fin 512), i = ix3 b x y :=
  ⟨i 1, i 2, by rw [← (Fin.ext ((mem_rOut b i).mp hi) : i 0 = b)]; exact eq_ix3 i⟩

theorem landed0 (c : Dev nD) (b s : Fin 2) (hs : has s c = true) (fd : S2x2x128x256.Idx → F .bf16) (i : S2x2x128x256.Idx)
    (hi : i ∈ (rWin s b).set) :
    (dstM 0 b s).view.write (Elt F) fd ((srcM 0 b).view.read (Elt F) (kvs m 0 c)) Finset.univ i = halo m 0 (nbr s c) i := by
  obtain ⟨x, y, rfl⟩ := win_ix s b i hi
  have h := View.write_emb_of_mem (v := (dstM 0 b s).view) fd ((srcM 0 b).view.read (Elt F) (kvs m 0 c)) (Finset.mem_univ (ix2 x y))
  rw [dst_emb0, View.read_apply, src_emb0] at h
  exact h.trans (halo_nbr m 0 s c hs (ix4 s b x y) rfl).symm
theorem landed1 (c : Dev nD) (b s : Fin 2) (hs : has s c = true) (fd : S2x2x128x256.Idx → F .bf16) (i : S2x2x128x256.Idx)
    (hi : i ∈ (rWin s b).set) :
    (dstM 1 b s).view.write (Elt F) fd ((srcM 1 b).view.read (Elt F) (kvs m 1 c)) Finset.univ i = halo m 1 (nbr s c) i := by
  obtain ⟨x, y, rfl⟩ := win_ix s b i hi
  have h := View.write_emb_of_mem (v := (dstM 1 b s).view) fd ((srcM 1 b).view.read (Elt F) (kvs m 1 c)) (Finset.mem_univ (ix2 x y))
  rw [dst_emb1, View.read_apply, src_emb1] at h
  exact h.trans (halo_nbr m 1 s c hs (ix4 s b x y) rfl).symm

/-- What lands in window `(kd, b, s)` of the neighbour on side `s` is what Schedule.lean says it then holds. -/
theorem landed (c : Dev nD) (kd b s : Fin 2) (hs : has s c = true) (fd : (dstW kd).view.ty.Contents (Elt F)) :
    (((dstM kd b s).view.loc (nbr s c : Thread nD τ) ↦[(dstM kd b s).view.set]{fullShare}
        ((dstM kd b s).view.write (Elt F) fd ((srcM kd b).view.read (Elt F) (srcC m kd c)) Finset.univ)) : sProp 𝕄)
      = dstPts (nbr s c) kd b s (dstC m kd (nbr s c)) := by
  unfold dstPts
  match kd with
  | 0 => rw [dst_set0]; exact pointsTo_congr fun i hi => landed0 m c b s hs fd i hi
  | 1 => rw [dst_set1]; exact pointsTo_congr fun i hi => landed1 m c b s hs fd i hi

theorem copied_at (c : Dev nD) (b : Fin 2) (fd : S2x128x512.Idx → F .f32) (i : S2x128x512.Idx) (hi : i ∈ (rOut b).set) :
    (resM b).view.write (Elt F) fd ((outM b).view.read (Elt F) (outC m c)) Finset.univ i = outC m c i := by
  obtain ⟨x, y, rfl⟩ := out_ix b i hi
  have h := View.write_emb_of_mem (v := (resM b).view) fd ((outM b).view.read (Elt F) (outC m c)) (Finset.mem_univ (ix2 x y))
  rw [res_emb, View.read_apply, out_emb] at h
  exact h
/-- What the copy of batch entry `b` of the result buffer writes into the result. -/
theorem copied (c : Dev nD) (b : Fin 2) (fd : S2x128x512.Idx → F .f32) :
    (((resM b).view.loc (c : Thread nD τ) ↦[(resM b).view.set]{fullShare}
        ((resM b).view.write (Elt F) fd ((outM b).view.read (Elt F) (outC m c)) Finset.univ)) : sProp 𝕄)
      = resPts c b (outC m c) := by
  unfold resPts
  rw [res_set]; exact pointsTo_congr fun i hi => copied_at m c b fd i hi

/-! ## What the stores write -/

/-- The columns of head `h` of a source buffer. -/
theorem inbHead (h : Fin 4) : ∀ a, (![0, 0, 64 * h.val] : Fin 3 → Nat) a + S2x128x64.size a ≤ S2x128x256.size a := by
  revert h; decide
theorem inbHead4 (h : Fin 4) : ∀ a, (![0, 0, h.val, 0] : Fin 4 → Nat) a + S2x128x1x64.size a ≤ S2x128x4x64.size a := by
  revert h; decide
abbrev rHead (h : Fin 4) : Rect S2x128x256 := Rect.unit (s := S2x128x256) ![0, 0, 64 * h.val] S2x128x64.size (inbHead h)
abbrev rHead4 (h : Fin 4) : Rect S2x128x4x64 := Rect.unit (s := S2x128x4x64) ![0, 0, h.val, 0] S2x128x1x64.size (inbHead4 h)

/-- The first `n` heads of a source buffer hold the block `g`. -/
def Filled (g f : S2x128x256.Idx → F .bf16) (n : ℕ) : Prop := ∀ i, (i 2).val < 64 * n → f i = g i

omit [FloatOps F] in
theorem filled_four {g f : S2x128x256.Idx → F .bf16} (h : Filled g f 4) : f = g :=
  funext fun i => h i (lt_of_lt_of_eq (i 2).isLt (by decide))

theorem rHead4_emb (h : Fin 4) (x : Fin 2) (y : Fin 128) (z : Fin 64) : (rHead4 h).emb (ix4 x y (0 : Fin 1) z) = ix4 x y h z := by
  funext a; apply Fin.ext
  match a with
  | 0 => show 0 + 1 * x.val = x.val; omega
  | 1 => show 0 + 1 * y.val = y.val; omega
  | 2 => show h.val + 1 * 0 = h.val; omega
  | 3 => show 0 + 1 * z.val = z.val; omega
theorem rHead_emb (h : Fin 4) (x : Fin 2) (y : Fin 128) (z : Fin 64) :
    (rHead h).emb (ix3 x y z) = ix3 x y (⟨64 * h.val + z.val, by omega⟩ : Fin 256) := by
  funext a; apply Fin.ext
  match a with
  | 0 => show 0 + 1 * x.val = x.val; omega
  | 1 => show 0 + 1 * y.val = y.val; omega
  | 2 => show 64 * h.val + 1 * z.val = 64 * h.val + z.val; omega
theorem mem_rHead (h : Fin 4) (i : S2x128x256.Idx) : i ∈ (rHead h).set ↔ 64 * h.val ≤ (i 2).val ∧ (i 2).val < 64 * h.val + 64 := by
  rw [Rect.mem_set_unit]
  refine ⟨fun H => H 2, fun H a => ?_⟩
  have h1 : (i 1).val < 128 := (i 1).isLt
  have h0 : (i 0).val < 2 := (i 0).isLt
  match a with
  | 0 => show 0 ≤ (i 0).val ∧ (i 0).val < 0 + 2; omega
  | 1 => show 0 ≤ (i 1).val ∧ (i 1).val < 0 + 128; omega
  | 2 => exact H

theorem squeeze_head (e : S2x128x64.numel = S2x128x1x64.numel) (x : Fin 2) (y : Fin 128) (z : Fin 64) :
    Shape.reshapeEquiv e (ix3 x y z) = ix4 x y (0 : Fin 1) z :=
  Shape.reshapeEquiv_eq_of_rowMajor e (by
    rw [Shape.rowMajor_val_four, Shape.rowMajor_val_three]
    show (((x.val * 128 + y.val) * 1 + 0) * 64 + z.val) = (x.val * 128 + y.val) * 64 + z.val
    omega)

/-- Head `h` of a block as loaded, rounded and stored. -/
theorem head_val (k : S2x128x4x64.Idx → F .f32) (h : Fin 4) (x : Fin 2) (y : Fin 128) (z : Fin 64) :
    k0_pay5 (fun j => k ((rHead4 h).emb j)) (ix3 x y z) = FloatOps.truncf .bf16 bitsLt_bf16_f32 (k (ix4 x y h z)) := by
  show FloatOps.truncf .bf16 bitsLt_bf16_f32
    (k ((rHead4 h).emb (Shape.reshapeEquiv _ (Shape.reshapeEquiv _ (ix3 x y z))))) = _
  rw [Shape.reshapeEquiv_self, squeeze_head, rHead4_emb]

/-! ### A store through a rectangle of a whole buffer -/

omit [FloatOps F] in
theorem write_in (b : Ref sig .tc) (r : Rect b.ty.shape) (f : b.ty.Contents (Elt F)) (w : r.shape.Idx → Elt F b.ty.elt) (j : r.shape.Idx) :
    ((Memref.whole b).access r : View sig .tc _ _ _).write (Elt F) f w Finset.univ (r.emb j) = w j :=
  View.write_emb_of_mem (v := ((Memref.whole b).access r : View sig .tc _ _ _)) f w (Finset.mem_univ j)
omit [FloatOps F] in
theorem write_out (b : Ref sig .tc) (r : Rect b.ty.shape) (f : b.ty.Contents (Elt F)) (w : r.shape.Idx → Elt F b.ty.elt) (i : b.ty.shape.Idx)
    (hi : i ∉ r.set) : ((Memref.whole b).access r : View sig .tc _ _ _).write (Elt F) f w Finset.univ i = f i :=
  View.write_of_not_mem (v := ((Memref.whole b).access r : View sig .tc _ _ _)) f w Finset.univ (by
    rw [View.setOn_univ, show ((Memref.whole b).access r : View sig .tc _ _ _).set = r.set from View.set_slice_whole b r]; exact hi)

/-- A column below head `h + 1` and not below head `h` is a column of head `h`. -/
theorem head_ix (h : Fin 4) (i : S2x128x256.Idx) (hi : i ∈ (rHead h).set) :
    ∃ (x : Fin 2) (y : Fin 128) (z : Fin 64), i = ix3 x y (⟨64 * h.val + z.val, by omega⟩ : Fin 256) := by
  obtain ⟨h0, h1⟩ := (mem_rHead h i).mp hi
  refine ⟨i 0, i 1, ⟨(i 2).val - 64 * h.val, by omega⟩, ?_⟩
  have e : (⟨64 * h.val + ((i 2).val - 64 * h.val), by have : (i 2).val < 256 := (i 2).isLt; omega⟩ : Fin 256) = i 2 :=
    Fin.ext (by show 64 * h.val + ((i 2).val - 64 * h.val) = (i 2).val; omega)
  rw [e]; exact eq_ix3 i

theorem castH_head (k : S2x128x4x64.Idx → F .f32) (h : Fin 4) (x : Fin 2) (y : Fin 128) (z : Fin 64) :
    castH k (ix3 x y (⟨64 * h.val + z.val, by omega⟩ : Fin 256)) = FloatOps.truncf .bf16 bitsLt_bf16_f32 (k (ix4 x y h z)) := by
  have e1 : headOf (⟨64 * h.val + z.val, by omega⟩ : Fin 256) = h := Fin.ext (by show (64 * h.val + z.val) / 64 = h.val; omega)
  have e2 : laneOf (⟨64 * h.val + z.val, by omega⟩ : Fin 256) = z := Fin.ext (by show (64 * h.val + z.val) % 64 = z.val; omega)
  show FloatOps.truncf .bf16 bitsLt_bf16_f32 (k (ix4 x y (headOf (⟨64 * h.val + z.val, by omega⟩ : Fin 256)) (laneOf (⟨64 * h.val + z.val, by omega⟩ : Fin 256)))) = _
  rw [e1, e2]

/-- Storing head `h` of the keys, rounded, fills the buffer of keys one head further; -/
theorem head_store0 (k : S2x128x4x64.Idx → F .f32) (f : S2x128x256.Idx → F .bf16) (h : Fin 4) (hf : Filled (castH k) f h.val)
    (w : S2x128x64.Idx → F .bf16) (hw : w = k0_pay5 (fun j => k ((rHead4 h).emb j))) :
    Filled (castH k) (((Memref.whole cc0_scratch0).access (rHead h) : View sig .tc _ _ _).write (Elt F) f w Finset.univ) (h.val + 1) := by
  subst hw
  intro i hi
  by_cases hm : i ∈ (rHead h).set
  · obtain ⟨x, y, z, rfl⟩ := head_ix h i hm
    have e := write_in (F := F) cc0_scratch0 (rHead h) f (k0_pay5 (fun j => k ((rHead4 h).emb j))) (ix3 x y z)
    rw [rHead_emb] at e
    exact e.trans ((head_val k h x y z).trans (castH_head k h x y z).symm)
  · refine (write_out (F := F) cc0_scratch0 (rHead h) f _ i hm).trans (hf i ?_)
    have hn : ¬ (64 * h.val ≤ (i 2).val ∧ (i 2).val < 64 * h.val + 64) := fun h' => hm ((mem_rHead h i).mpr h')
    omega
/-- and likewise the values. -/
theorem head_store1 (k : S2x128x4x64.Idx → F .f32) (f : S2x128x256.Idx → F .bf16) (h : Fin 4) (hf : Filled (castH k) f h.val)
    (w : S2x128x64.Idx → F .bf16) (hw : w = k0_pay5 (fun j => k ((rHead4 h).emb j))) :
    Filled (castH k) (((Memref.whole cc0_scratch1).access (rHead h) : View sig .tc _ _ _).write (Elt F) f w Finset.univ) (h.val + 1) :=
  head_store0 k f h hf w hw

/-- A landing buffer after a slot nobody writes is filled with zeros. -/
def Zeroed (s : Fin 2) (f g : S2x2x128x256.Idx → F .bf16) : Prop :=
  ∀ i, g i = if (i 0).val = s.val then Scalar.ofBits .bf16 0x0000#16 else f i

theorem slot_ix (s : Fin 2) (i : S2x2x128x256.Idx) (hi : i ∈ (rSlot s).set) : ∃ j, (rSlot s).emb j = i := by
  rw [← Rect.map_emb_univ] at hi
  obtain ⟨j, -, rfl⟩ := Finset.mem_map.mp hi
  exact ⟨j, rfl⟩
theorem zero_store0 (s : Fin 2) (f : S2x2x128x256.Idx → F .bf16) (w : S1x2x128x256.Idx → F .bf16) (hw : w = k0_pay1) :
    Zeroed s f (((Memref.whole cc0_scratch2).access (rSlot s) : View sig .tc _ _ _).write (Elt F) f w Finset.univ) := by
  subst hw
  intro i
  by_cases hm : i ∈ (rSlot s).set
  · obtain ⟨j, rfl⟩ := slot_ix s i hm
    rw [if_pos ((mem_rSlot s _).mp hm)]
    exact write_in (F := F) cc0_scratch2 (rSlot s) f k0_pay1 j
  · rw [if_neg fun h => hm ((mem_rSlot s i).mpr h)]
    exact write_out (F := F) cc0_scratch2 (rSlot s) f _ i hm
theorem zero_store1 (s : Fin 2) (f : S2x2x128x256.Idx → F .bf16) (w : S1x2x128x256.Idx → F .bf16) (hw : w = k0_pay1) :
    Zeroed s f (((Memref.whole cc0_scratch3).access (rSlot s) : View sig .tc _ _ _).write (Elt F) f w Finset.univ) := by
  subst hw
  intro i
  by_cases hm : i ∈ (rSlot s).set
  · obtain ⟨j, rfl⟩ := slot_ix s i hm
    rw [if_pos ((mem_rSlot s _).mp hm)]
    exact write_in (F := F) cc0_scratch3 (rSlot s) f k0_pay1 j
  · rw [if_neg fun h => hm ((mem_rSlot s i).mpr h)]
    exact write_out (F := F) cc0_scratch3 (rSlot s) f _ i hm

theorem rOut_emb (b : Fin 2) (x : Fin 128) (y : Fin 512) : (rOut b).emb (ix3 (0 : Fin 1) x y) = ix3 b x y := by
  funext a; apply Fin.ext
  match a with
  | 0 => show b.val + 1 * 0 = b.val; omega
  | 1 => show 0 + 1 * x.val = x.val; omega
  | 2 => show 0 + 1 * y.val = y.val; omega
omit [FloatOps F] in
theorem out_store (b : Fin 2) (g f : S2x128x512.Idx → F .f32) (w : S1x128x512.Idx → F .f32)
    (hw : ∀ x y, w (ix3 (0 : Fin 1) x y) = g (ix3 b x y)) (i : S2x128x512.Idx) (hi : i ∈ (rOut b).set) :
    ((Memref.whole cc0_scratch4).access (rOut b) : View sig .tc _ _ _).write (Elt F) f w Finset.univ i = g i := by
  obtain ⟨x, y, rfl⟩ := out_ix b i hi
  have e := write_in (F := F) cc0_scratch4 (rOut b) f w (ix3 (0 : Fin 1) x y)
  rw [rOut_emb] at e
  exact e.trans (hw x y)

/-! ### What the loads and stores reach -/

theorem setOn_whole (b : Ref sig .tc) (M : Finset b.ty.shape.Idx) : (Memref.whole b).view.setOn M = M := by
  ext i; exact View.mem_setOn (v := (Memref.whole b).view) (x := i)
theorem reach_src0 (b : Fin 2) : (Memref.whole cc0_scratch0).view.setOn (rSrc b).toLoadRect.set ⊆ (srcM 0 b).view.set := by
  rw [src_set0, setOn_whole]
theorem reach_src1 (b : Fin 2) : (Memref.whole cc0_scratch1).view.setOn (rSrc b).toLoadRect.set ⊆ (srcM 1 b).view.set := by
  rw [src_set1, setOn_whole]
theorem reach_dst0 (b s : Fin 2) : (Memref.whole cc0_scratch2).view.setOn (rWin s b).toLoadRect.set ⊆ (dstM 0 b s).view.set := by
  rw [dst_set0, setOn_whole]
theorem reach_dst1 (b s : Fin 2) : (Memref.whole cc0_scratch3).view.setOn (rWin s b).toLoadRect.set ⊆ (dstM 1 b s).view.set := by
  rw [dst_set1, setOn_whole]
theorem reach_out (b : Fin 2) : (Memref.whole cc0_scratch4).view.setOn (rOut b).toLoadRect.set ⊆ (outM b).view.set := by
  rw [out_set, setOn_whole]
theorem store_out (b : Fin 2) : ((Memref.whole cc0_scratch4).access (rOut b) : View sig .tc _ _ _).setOn Finset.univ ⊆ (outM b).view.set := by
  show ((View.whole cc0_scratch4).slice (rOut b)).set ⊆ _
  rw [View.set_slice_whole, out_set]

end Cert.HaloProof

end
-- ==== Proof.Steps.lean ====
/-
  One step of the kernel at a time: each signal, transfer and wait, with the test it stands under, as one rule that holds
  on every device, whether it has the neighbour in question or not.
-/
module

public import proofs.«01_k».proof.Proof.Geometry

@[expose] public section

noncomputable section

namespace Cert.HaloProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ) (ρ : Dev nD → PrngReg)

abbrev 𝒱₀ : Variants := Variants.none

/-- A program run on device `c`, its result satisfying `Q`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## A test, then the rest -/

section Guard
variable {α : Type} {β β' : Type} {c : Dev nD} {C : Prop} [Decidable C]

omit [FloatOps F] in
theorem dite_bind {J : Prog (TpuEff nD τ sig (Elt F) Λ₀ .tc) α} {A : C → Prog (TpuEff nD τ sig (Elt F) Λ₀ .tc) PUnit} {X : C → Prog (TpuEff nD τ sig (Elt F) Λ₀ .tc) α}
    (hX : ∀ h, X h = A h >>= fun _ => J) : (dite C X (fun _ => J)) = (dite C A (fun _ => .ret ⟨⟩)) >>= fun _ => J := by
  by_cases h : C
  · rw [dif_pos h, dif_pos h, hX h]
  · rw [dif_neg h, dif_neg h]; rfl

/-- A test guarding one operation. -/
theorem guard_one {J : Prog (TpuEff nD τ sig (Elt F) Λ₀ .tc) α} {Q : α → sProp 𝕄} {A : C → Prog (TpuEff nD τ sig (Elt F) Λ₀ .tc) PUnit} :
    WP c (dite C A (fun _ => .ret ⟨⟩)) (fun _ => WP c J Q)
      ⊢ WP c (dite C (fun h => A h >>= fun _ => J) (fun _ => J)) Q := by
  exact Entails.of_eq ((wp_bind _ _ _ _ _ _).symm.trans
    (congrArg (fun p => WP c p Q) (dite_bind (A := A) (J := J) (fun _ => rfl)).symm))
/-- A test guarding two operations. -/
theorem guard_two {J : Prog (TpuEff nD τ sig (Elt F) Λ₀ .tc) α} {Q : α → sProp 𝕄} {A B : C → Prog (TpuEff nD τ sig (Elt F) Λ₀ .tc) PUnit} :
    WP c (dite C (fun h => A h >>= fun _ => B h) (fun _ => .ret ⟨⟩)) (fun _ => WP c J Q)
      ⊢ WP c (dite C (fun h => A h >>= fun _ => B h >>= fun _ => J) (fun _ => J)) Q := by
  exact Entails.of_eq ((wp_bind _ _ _ _ _ _).symm.trans
    (congrArg (fun p => WP c p Q) (dite_bind (A := fun h => A h >>= fun _ => B h) (J := J) (fun _ => (bind_assoc _ _ _).symm)).symm))
/-- A test guarding two loads, each with a store after it. -/
theorem guard_four {J : Prog (TpuEff nD τ sig (Elt F) Λ₀ .tc) α} {Q : α → sProp 𝕄} {A : C → Prog (TpuEff nD τ sig (Elt F) Λ₀ .tc) β} {A' : C → Prog (TpuEff nD τ sig (Elt F) Λ₀ .tc) β'}
    {B B' : C → Prog (TpuEff nD τ sig (Elt F) Λ₀ .tc) PUnit} :
    WP c (dite C (fun h => A h >>= fun _ => B h >>= fun _ => A' h >>= fun _ => B' h) (fun _ => .ret ⟨⟩)) (fun _ => WP c J Q)
      ⊢ WP c (dite C (fun h => A h >>= fun _ => B h >>= fun _ => A' h >>= fun _ => B' h >>= fun _ => J) (fun _ => J)) Q := by
  exact Entails.of_eq ((wp_bind _ _ _ _ _ _).symm.trans
    (congrArg (fun p => WP c p Q) (dite_bind (A := fun h => A h >>= fun _ => B h >>= fun _ => A' h >>= fun _ => B' h) (J := J)
      (fun _ => by simp only [bind_assoc])).symm))

end Guard

/-! ## The cells of a device, and what every device knows of them -/

/-- A device's cells: the barrier cell, the send cells, the receive cells, the output cells. -/
abbrev CI : Type := Unit ⊕ T ⊕ T ⊕ Fin 2

def kcell (p : Dev nD × CI) : GSem nD τ sig :=
  match p.2 with
  | .inl _ => barCell p.1
  | .inr (.inl t) => sendCell p.1 t.1 t.2.1 t.2.2
  | .inr (.inr (.inl t)) => recvCell p.1 t.1 t.2.1 t.2.2
  | .inr (.inr (.inr b)) => outCell p.1 b

abbrev iBar : CI := .inl ()
abbrev iSend (kd b s : Fin 2) : CI := .inr (.inl (kd, b, s))
abbrev iRecv (kd b s : Fin 2) : CI := .inr (.inr (.inl (kd, b, s)))
abbrev iOut (b : Fin 2) : CI := .inr (.inr (.inr b))

variable (K : Dev nD × CI → ℕ)

/-- Every cell's invariant, and that its first round is open. -/
def recs : sProp 𝕄 := bigSep Finset.univ fun p : Dev nD × CI => iprop(cellInv ER (Rd m) (K p) (kcell p) ∗ reached ER (kcell p) 0)

instance recs_persistent : BI.Persistent (recs m K) := by unfold recs; infer_instance

instance : DecidableEq (Dev nD × CI) := instDecidableEqProd

theorem recs_at (p : Dev nD × CI) : recs m K ⊢ iprop(cellInv ER (Rd m) (K p) (kcell p) ∗ reached ER (kcell p) 0) :=
  bigSep_elim (Finset.mem_univ p)

/-- What device `c` owes, its past waits forgotten. -/
def ow (c : Dev nD) (O : CellTallies nD τ sig Unit) : sProp 𝕄 := iprop(∃ W : Waits sig Unit, owes (c : Thread nD τ) O W)

/-! ## The tests -/

theorem testL (c : Dev nD) : (Scalar.cmpi .ne (Scalar.extui (w5 c) : BitVec 32) 0#32 = 1#1) ↔ has 1 c = true := by revert c; decide
theorem testR (c : Dev nD) : (Scalar.cmpi .ne (Scalar.extui (w6 c) : BitVec 32) 0#32 = 1#1) ↔ has 0 c = true := by revert c; decide
theorem testNL (c : Dev nD) : (Scalar.cmpi .ne (Scalar.extui (Scalar.xori (w5 c) 1#1) : BitVec 32) 0#32 = 1#1) ↔ ¬ has 1 c = true := by
  revert c; decide
theorem testNR (c : Dev nD) : (Scalar.cmpi .ne (Scalar.extui (Scalar.xori (w6 c) 1#1) : BitVec 32) 0#32 = 1#1) ↔ ¬ has 0 c = true := by
  revert c; decide
theorem dev_left (c : Dev nD) (h : k0_cond3 c = 1#1) : (⟨k0_dev1 c, k0_dev1_lt c h⟩ : Dev nD) = nbr 1 c := by revert c; decide
theorem dev_right (c : Dev nD) (h : k0_cond4 c = 1#1) : (⟨k0_dev2 c, k0_dev2_lt c h⟩ : Dev nD) = nbr 0 c := by revert c; decide
theorem amt_bar (c : Dev nD) : (k0_amt1 c).toInt = (nNbr c : ℤ) := by revert c; decide

/-! ## The steps -/

section Steps
variable {C : Prop} [Decidable C] (c : Dev nD)

/-- The token and the payload of the unit for the neighbour on side `s`, where there is one. -/
def barDue (s : Fin 2) : sProp 𝕄 := when (has s c) iprop(dutyTok ER (barCell (nbr s c)) 0 (opp s) ∗ barPay (nbr s c) (opp s))

/-- A unit for the neighbour on side `s`, under the test that there is one. -/
theorem sig_step (s : Fin 2) (hC : C ↔ has s c = true) (n : C → Dev nD) (hn : ∀ h, n h = nbr s c)
    (O : CellTallies nD τ sig Unit) (Q : PUnit → sProp 𝕄) :
    iprop(recs m K ∗ ow c (O + dueBar c s) ∗ barDue c s)
      ⊢ iprop((ow c O -∗ Q ⟨⟩) -∗ WP c (dite C (fun h => semSignalWord (n h) barS 1#32) (fun _ => .ret ⟨⟩)) Q) := by
  by_cases h : C
  · have hs := hC.mp h
    rw [dif_pos h, hn h]
    unfold ow barDue
    rw [when_true hs]
    iintro ⟨#HR, ⟨%W, HO⟩, Htok, Hpay⟩ Hk
    ihave HP := (recs_at m K (nbr s c, iBar)) $$ HR
    icases HP with ⟨#HI, #Hr⟩
    unfold semSignalWord
    iapply (Rounds.wp_signal 𝒱₀ ER (Rd m) (c : Thread nD τ) none (dst := (nbr s c : Thread nD τ)) (κ := K (nbr s c, iBar)) (r := 0)
      (d := opp s) (by rw [duties_bar]; exact Finset.mem_filter.mpr ⟨Finset.mem_univ _, by rw [has_nbr]; exact hs⟩)
      ((amount_bar m (nbr s c) (opp s)).trans (by decide)) () O
      (O₀ := O + dueBar c s) (by unfold dueBar; rw [if_pos hs]; rfl)) $$ [HO Htok Hpay]
    · isplitr; · iexact HI
      isplitl [HO]; · iexact HO
      isplitl [Htok]; · iexact Htok
      isplitl [Hpay]; · rw [payload_bar]; iexact Hpay
      iexact Hr
    iintro HO
    rw [wp_ret]; imodintro
    iapply Hk
    iexists W; iexact HO
  · have hs : ¬ has s c = true := fun h' => h (hC.mpr h')
    rw [dif_neg h]; unfold WP; rw [wp_ret]
    unfold ow dueBar
    rw [if_neg hs, add_zero]
    iintro ⟨#HR, ⟨%W, HO⟩, -⟩ Hk
    imodintro
    iapply Hk
    iexists W; iexact HO

/-- What transfer `(kd, b, s)` needs: the share of the source window to read through and, where there is a neighbour, the
    two duties' tokens and the neighbour's landing window. -/
def ready (kd b s : Fin 2) : sProp 𝕄 :=
  iprop(srcPts m c kd b (shr s) ∗ when (has s c) iprop(dutyTok ER (sendCell c kd b s) 0 (0 : Fin 2)
    ∗ dutyTok ER (recvCell (nbr s c) kd b s) 0 (0 : Fin 2) ∗ dstAny (nbr s c) kd b s))
/-- What it leaves: the credit to wait for the source share with, or the share itself where nothing was sent. -/
def sent (kd b s : Fin 2) : sProp 𝕄 :=
  if has s c = true then cred (tallyAt (sendCell c kd b s) () N) else srcPts m c kd b (shr s)
/-- Before its arrival is waited for, a landing window is the credit to wait with, or the zeros nobody writes over. -/
def coming (kd b s : Fin 2) : sProp 𝕄 :=
  if has (opp s) c = true then cred (tallyAt (recvCell c kd b s) () N) else dstPts c kd b s (dstC m kd c)

/-- Transfer `(kd, b, s)`, under the test that there is a neighbour on side `s`. -/
theorem send_step (kd b s : Fin 2) (hC : C ↔ has s c = true) (n : C → Dev nD) (hn : ∀ h, n h = nbr s c) (l : List T)
    {hsc : ∀ h, (dstM kd b s : Memref sig (Dev.tc (n h) : Thread nD τ).2.kind .vmem S128x256 .bf16).view.ref.isScScratch = false}
    {hsrc : C → (srcM kd b).view.WordExact} {hdst : C → (dstM kd b s).view.WordExact}
    {hsem : ∀ h, DmaTarget.Typed .vmem (.dma (recvS kd b s)) (.remote (Dev.tc (n h) : Thread nD τ)
      (dstM kd b s : Memref sig (Dev.tc (n h) : Thread nD τ).2.kind .vmem S128x256 .bf16) (.dma (sendS kd b s)) (hsc h))}
    (Q : PUnit → sProp 𝕄) :
    iprop(recs m K ∗ ow c (owe c ((kd, b, s) :: l)) ∗ ready m c kd b s)
      ⊢ iprop(((ow c (owe c l) ∗ sent m c kd b s) -∗ Q ⟨⟩) -∗ WP c (dite C
          (fun h => Prog.lift (.enqueueDma (srcM kd b) (.remote (Dev.tc (n h) : Thread nD τ) (dstM kd b s) (.dma (sendS kd b s)) (hsc h))
            (.dma (recvS kd b s)) (hsrc h) (hdst h) (hsem h))) (fun _ => .ret ⟨⟩)) Q) := by
  by_cases h : C
  · have hs := hC.mp h
    rw [dif_pos h]
    generalize hsc h = hsc', hsrc h = hsrc', hdst h = hdst', hsem h = hsem'
    have e := hn h
    generalize n h = n' at *
    subst e
    unfold ow ready sent
    rw [when_true hs, if_pos hs]
    iintro ⟨#HR, ⟨%W, HO⟩, Hsrc, Ht1, Ht2, Hany⟩ Hk
    unfold dstAny
    icases Hany with ⟨%fd, Hdst⟩
    ihave HP := (recs_at m K (c, iSend kd b s)) $$ HR
    icases HP with ⟨#HI1, #Hr1⟩
    ihave HP := (recs_at m K (nbr s c, iRecv kd b s)) $$ HR
    icases HP with ⟨#HI2, #Hr2⟩
    unfold srcPts dstPts Prog.lift
    iapply (Rounds.wp_send_pointsTo 𝒱₀ ER (Rd m) (c : Thread nD τ) none (κ₁ := K (c, iSend kd b s)) (κ₂ := K (nbr s c, iRecv kd b s))
      (r₁ := 0) (r₂ := 0) (d₁ := (0 : Fin 2)) (d₂ := (0 : Fin 2)) (fd := fd)
      (by rw [duties_send, if_pos hs]; exact Finset.mem_singleton_self _)
      (by rw [duties_recv, has_nbr, if_pos hs]; exact Finset.mem_singleton_self _)
      () () N (by exact N_dst kd b s) (amount_send m c kd b s 0) (amount_recv m (nbr s c) kd b s 0) (O₀ := owe c ((kd, b, s) :: l)) (owe c l)
      (by show owe c l + due c (kd, b, s) = _; unfold due; rw [if_pos hs]) (W := W)
      (by rw [payload_send]; exact BI.Entails.refl _)
      (by rw [payload_recv]; exact Entails.of_eq (landed m c kd b s hs fd))) $$ [HO Hsrc Ht1 Ht2 Hdst]
    · isplitr; · iexact HI1
      isplitr; · iexact HI2
      isplitl [Hsrc]; · iexact Hsrc
      isplitl [Hdst]; · iexact Hdst
      isplitl [HO]; · iexact HO
      isplitl [Ht1]; · iexact Ht1
      isplitr; · iexact Hr1
      isplitl [Ht2]; · iexact Ht2
      iexact Hr2
    iintro ⟨Hc, HO⟩
    rw [wp_ret]; imodintro
    iapply Hk
    isplitl [HO]; · iexists W; iexact HO
    iexact Hc
  · have hs : ¬ has s c = true := fun h' => h (hC.mpr h')
    rw [dif_neg h]; unfold WP; rw [wp_ret]
    unfold ready sent
    rw [when_false hs, if_neg hs, show owe c ((kd, b, s) :: l) = owe c l from by
      show owe c l + due c (kd, b, s) = _; unfold due; rw [if_neg hs, add_zero]]
    iintro ⟨#HR, HO, Hsrc, -⟩ Hk
    imodintro
    iapply Hk
    isplitl [HO] <;> iassumption

/-- The wait for the block arriving in window `(kd, b, s)`, under the test that there is a neighbour it comes from; the
    cell is closed. -/
theorem recv_step (kd b s : Fin 2) (hC : C ↔ has (opp s) c = true) {sp sp' : Space} {S S' : Shape} {e e' : EltTy}
    {M1 : Memref sig .tc sp' S' e'} {M2 : Memref sig .tc sp S e} {h1 : C → M1.view.WordExact} {h2 : C → M2.view.WordExact}
    (hN : M2.view.dmaCredit = N) (Q : PUnit → sProp 𝕄) :
    iprop(recs m K ∗ ow c 0 ∗ coming m c kd b s ∗ atPos ER (recvCell c kd b s) 0 ∅ 0)
      ⊢ iprop(((ow c 0 ∗ dstPts c kd b s (dstC m kd c) ∗ semVal (recvCell c kd b s) 0) -∗ Q ⟨⟩) -∗ WP c (dite C
          (fun h => Prog.lift (.waitDma2 (recvS kd b s) M1 M2 (h1 h) (h2 h))) (fun _ => .ret ⟨⟩)) Q) := by
  by_cases h : C
  · have hs := hC.mp h
    rw [dif_pos h]
    unfold ow coming Prog.lift
    rw [if_pos hs]
    iintro ⟨#HR, ⟨%W, HO⟩, Hc, Hat⟩ Hk
    ihave HP := (recs_at m K (c, iRecv kd b s)) $$ HR
    icases HP with ⟨#HI, -⟩
    iapply (Rounds.wp_wait_rest_token 𝒱₀ ER (Rd m) (c : Thread nD τ) none (κ := K (c, iRecv kd b s))
      (wpE_waitDma2_eq 𝒱₀ (c : Thread nD τ) none Set.univ) (Set.mem_univ _) () (O := 0) (W := W) (R := 0) (m := 0) (T := ∅)
      (by rw [Nat.zero_add, hN]; exact (expect_recv m c kd b s hs).symm)) $$ [HO Hc Hat]
    · isplitr; · iexact HI
      isplitl [Hc]; · rw [hN]; iexact Hc
      isplitl [HO]; · iexact HO
      isplitr; · rw [MayWait_zero]; iempintro
      iexact Hat
    iintro ⟨HO, Hat, -, Hpay⟩
    ihave Hp := (Entails.of_eq (rest_recv m c kd b s hs)) $$ Hpay
    imod (Rounds.cell_close ER (Rd m) (Set.mem_univ (K (c, iRecv kd b s))) (fun h => h) (R := 0 + 1)
      (duties_later m (recvCell c kd b s))) $$ [Hat] with Hz
    · isplitr; · iexact HI
      iexact Hat
    rw [wp_ret]; imodintro
    iapply Hk
    isplitl [HO]; · iexists _; iexact HO
    isplitl [Hp] <;> iassumption
  · have hs : ¬ has (opp s) c = true := fun h' => h (hC.mpr h')
    rw [dif_neg h]; unfold WP; rw [wp_ret]
    unfold coming
    rw [if_neg hs]
    iintro ⟨#HR, HO, Hd, Hat⟩ Hk
    ihave HP := (recs_at m K (c, iRecv kd b s)) $$ HR
    icases HP with ⟨#HI, -⟩
    imod (Rounds.cell_close ER (Rd m) (Set.mem_univ (K (c, iRecv kd b s))) (fun h => h) (R := 0)
      (duties_recv_none m c kd b s hs)) $$ [Hat] with Hz
    · isplitr; · iexact HI
      iexact Hat
    imodintro
    iapply Hk
    isplitl [HO]; · iexact HO
    isplitl [Hd] <;> iassumption

/-- One wait for the source share of a transfer that was made; the cell is closed. -/
theorem sent_wait (kd b s : Fin 2) (hs : has s c = true) {α : Type} {sp sp' : Space} {S S' : Shape} {e e' : EltTy}
    {M1 : Memref sig .tc sp' S' e'} {M2 : Memref sig .tc sp S e} {h1 : M1.view.WordExact} {h2 : M2.view.WordExact}
    (hN : M2.view.dmaCredit = N) {k : PUnit → Prog (TpuEff nD τ sig (Elt F) Λ₀ .tc) α} (Q : α → sProp 𝕄) :
    iprop(recs m K ∗ ow c 0 ∗ sent m c kd b s ∗ atPos ER (sendCell c kd b s) 0 ∅ 0)
      ⊢ iprop(((ow c 0 ∗ srcPts m c kd b (shr s) ∗ semVal (sendCell c kd b s) 0) -∗ WP c (k ⟨⟩) Q) -∗
          WP c (.op (.waitDma2 (sendS kd b s) M1 M2 h1 h2) k) Q) := by
  unfold ow sent
  rw [if_pos hs]
  iintro ⟨#HR, ⟨%W, HO⟩, Hc, Hat⟩ Hk
  ihave HP := (recs_at m K (c, iSend kd b s)) $$ HR
  icases HP with ⟨#HI, -⟩
  iapply (Rounds.wp_wait_rest_token 𝒱₀ ER (Rd m) (c : Thread nD τ) none (κ := K (c, iSend kd b s))
    (wpE_waitDma2_eq 𝒱₀ (c : Thread nD τ) none Set.univ) (Set.mem_univ _) () (O := 0) (W := W) (R := 0) (m := 0) (T := ∅)
    (by rw [Nat.zero_add, hN]; exact (expect_send m c kd b s hs).symm)) $$ [HO Hc Hat]
  · isplitr; · iexact HI
    isplitl [Hc]; · rw [hN]; iexact Hc
    isplitl [HO]; · iexact HO
    isplitr; · rw [MayWait_zero]; iempintro
    iexact Hat
  iintro ⟨HO, Hat, -, Hpay⟩
  ihave Hp := (Entails.of_eq (rest_send m c kd b s hs)) $$ Hpay
  imod (Rounds.cell_close ER (Rd m) (Set.mem_univ (K (c, iSend kd b s))) (fun h => h) (R := 0 + 1)
    (duties_later m (sendCell c kd b s))) $$ [Hat] with Hz
  · isplitr; · iexact HI
    iexact Hat
  iapply Hk
  isplitl [HO]; · iexists _; iexact HO
  isplitl [Hp] <;> iassumption

/-- A send cell nothing was sent through is closed as it stands. -/
theorem unsent_close (kd b s : Fin 2) (hs : ¬ has s c = true) :
    iprop(recs m K ∗ sent m c kd b s ∗ atPos ER (sendCell c kd b s) 0 ∅ 0)
      ⊢ iprop(|={Set.univ}=> (srcPts m c kd b (shr s) ∗ semVal (sendCell c kd b s) 0)) := by
  unfold sent
  rw [if_neg hs]
  iintro ⟨#HR, Hd, Hat⟩
  ihave HP := (recs_at m K (c, iSend kd b s)) $$ HR
  icases HP with ⟨#HI, -⟩
  imod (Rounds.cell_close ER (Rd m) (Set.mem_univ (K (c, iSend kd b s))) (fun h => h) (R := 0)
    (duties_send_none m c kd b s hs)) $$ [Hat] with Hz
  · isplitr; · iexact HI
    iexact Hat
  imodintro
  isplitl [Hd] <;> iassumption

/-- The waits for the source shares of the key and the value transfer of batch entry `b` to side `s`, under the test that
    there is a neighbour there. -/
theorem sent_step (b s : Fin 2) (hC : C ↔ has s c = true) {sp sp' sq sq' : Space} {S S' R R' : Shape} {e e' u u' : EltTy}
    {M1 : Memref sig .tc sp' S' e'} {M2 : Memref sig .tc sp S e} {h1 : C → M1.view.WordExact} {h2 : C → M2.view.WordExact}
    {N1 : Memref sig .tc sq' R' u'} {N2 : Memref sig .tc sq R u} {g1 : C → N1.view.WordExact} {g2 : C → N2.view.WordExact}
    (hM : M2.view.dmaCredit = N) (hN : N2.view.dmaCredit = N) (Q : PUnit → sProp 𝕄) :
    iprop(recs m K ∗ ow c 0 ∗ (sent m c 0 b s ∗ atPos ER (sendCell c 0 b s) 0 ∅ 0) ∗ (sent m c 1 b s ∗ atPos ER (sendCell c 1 b s) 0 ∅ 0))
      ⊢ iprop(((ow c 0 ∗ (srcPts m c 0 b (shr s) ∗ semVal (sendCell c 0 b s) 0) ∗ (srcPts m c 1 b (shr s) ∗ semVal (sendCell c 1 b s) 0)) -∗ Q ⟨⟩) -∗
          WP c (dite C (fun h => Prog.lift (.waitDma2 (sendS 0 b s) M1 M2 (h1 h) (h2 h)) >>= fun _ =>
            Prog.lift (.waitDma2 (sendS 1 b s) N1 N2 (g1 h) (g2 h))) (fun _ => .ret ⟨⟩)) Q) := by
  by_cases h : C
  · have hs := hC.mp h
    rw [dif_pos h, Prog.bind_lift]
    iintro ⟨#HR, HO, HA, HB⟩ Hk
    iapply (sent_wait m K c 0 b s hs hM Q) $$ [HO HA]
    · isplitr; · iexact HR
      isplitl [HO] <;> iassumption
    iintro ⟨HO, HA⟩
    unfold Prog.lift
    iapply (sent_wait m K c 1 b s hs hN Q) $$ [HO HB]
    · isplitr; · iexact HR
      isplitl [HO] <;> iassumption
    iintro ⟨HO, HB⟩
    unfold WP
    rw [wp_ret]; imodintro
    iapply Hk
    isplitl [HO]; · iexact HO
    isplitl [HA] <;> iassumption
  · have hs : ¬ has s c = true := fun h' => h (hC.mpr h')
    rw [dif_neg h]; unfold WP; rw [wp_ret]
    iintro ⟨#HR, HO, HA, HB⟩ Hk
    imod (unsent_close m K c 0 b s hs) $$ [HA] with HA
    · isplitr; · iexact HR
      iexact HA
    imod (unsent_close m K c 1 b s hs) $$ [HB] with HB
    · isplitr; · iexact HR
      iexact HB
    imodintro
    iapply Hk
    isplitl [HO]; · iexact HO
    isplitl [HA] <;> iassumption

/-- The wait on the barrier cell: the landing windows of the neighbours there are come with it; the cell is closed. -/
theorem bar_step {α : Type} (l : List T) {k : PUnit → Prog (TpuEff nD τ sig (Elt F) Λ₀ .tc) α} (Q : α → sProp 𝕄) :
    iprop(recs m K ∗ levAts L lv ∗ ow c (owe c l) ∗ cred (tallyAt (barCell c) () (nNbr c)) ∗ atPos ER (barCell c) 0 ∅ 0)
      ⊢ iprop(((ow c (owe c l) ∗ (when (has 0 c) (barPay c 0) ∗ when (has 1 c) (barPay c 1)) ∗ semVal (barCell c) 0) -∗ WP c (k ⟨⟩) Q) -∗
          WP c (semWaitWord barS (k0_amt1 c) >>= k) Q) := by
  unfold ow semWaitWord
  rw [amt_bar]
  iintro ⟨#HR, #Hlev, ⟨%W, HO⟩, Hc, Hat⟩ Hk
  ihave HP := (recs_at m K (c, iBar)) $$ HR
  icases HP with ⟨#HI, -⟩
  iapply (Rounds.wp_wait_rest_token 𝒱₀ ER (Rd m) (c : Thread nD τ) none (κ := K (c, iBar))
    (wpE_semWait_eq 𝒱₀ (c : Thread nD τ) none Set.univ) (Set.mem_univ _) () (O := owe c l) (W := W) (R := 0) (m := 0) (T := ∅)
    (by rw [Nat.zero_add]; exact (expect_bar m c).symm)) $$ [HO Hc Hat]
  · isplitr; · iexact HI
    isplitl [Hc]; · iexact Hc
    isplitl [HO]; · iexact HO
    isplitr; · iapply (mayWait_bar c l); iexact Hlev
    iexact Hat
  iintro ⟨HO, Hat, -, Hpay⟩
  ihave Hp := (Entails.of_eq (rest_bar m c)) $$ Hpay
  imod (Rounds.cell_close ER (Rd m) (Set.mem_univ (K (c, iBar))) (fun h => h) (R := 0 + 1)
    (duties_later m (barCell c))) $$ [Hat] with Hz
  · isplitr; · iexact HI
    iexact Hat
  iapply Hk
  isplitl [HO]; · iexists _; iexact HO
  isplitl [Hp] <;> iassumption

/-- The copy of batch entry `b` of the result buffer into the result. -/
theorem copy_step {α : Type} (b : Fin 2) (fd : S2x128x512.Idx → F .f32) {hsrc : (outM b).view.WordExact} {hdst : (resM b).view.WordExact}
    {hsem : DmaTarget.Typed (nD := nD) .vmem (.dma (outS b)) (.here (resM b) : DmaTarget (τ := τ) nD sig .tc .hbm S128x512 .f32)}
    {k : PUnit → Prog (TpuEff nD τ sig (Elt F) Λ₀ .tc) α} (Q : α → sProp 𝕄) :
    iprop(recs m K ∗ outPts c b (outC m c) ∗ resPts c b fd ∗ dutyTok ER (outCell c b) 0 (0 : Fin 2))
      ⊢ iprop((cred (tallyAt (outCell c b) () NO) -∗ WP c (k ⟨⟩) Q) -∗
          WP c (.op (.enqueueDma (outM b) (.here (resM b)) (.dma (outS b)) hsrc hdst hsem) k) Q) := by
  iintro ⟨#HR, Hsrc, Hdst, Ht⟩ Hk
  ihave HP := (recs_at m K (c, iOut b)) $$ HR
  icases HP with ⟨#HI, #Hr⟩
  unfold outPts resPts
  iapply (Rounds.wp_copy_pointsTo 𝒱₀ ER (Rd m) (c : Thread nD τ) none (κ := K (c, iOut b)) (r := 0) (d := (0 : Fin 2)) (fd := fd)
    (by rw [duties_out]; exact Finset.mem_singleton_self _) () NO (by exact NO_res b) (amount_out m c b 0)
    (by rw [payload_out]; exact sep_mono_left (Entails.of_eq (copied m c b fd)))) $$ [Hsrc Hdst Ht]
  · isplitr; · iexact HI
    isplitl [Hsrc]; · iexact Hsrc
    isplitl [Hdst]; · iexact Hdst
    isplitl [Ht]; · iexact Ht
    iexact Hr
  iexact Hk

/-- The wait for that copy; the cell is closed. -/
theorem out_step {α : Type} (b : Fin 2) {sp sp' : Space} {S S' : Shape} {e e' : EltTy}
    {M1 : Memref sig .tc sp' S' e'} {M2 : Memref sig .tc sp S e} {h1 : M1.view.WordExact} {h2 : M2.view.WordExact}
    (hN : M2.view.dmaCredit = NO) {k : PUnit → Prog (TpuEff nD τ sig (Elt F) Λ₀ .tc) α} (Q : α → sProp 𝕄) :
    iprop(recs m K ∗ ow c 0 ∗ cred (tallyAt (outCell c b) () NO) ∗ atPos ER (outCell c b) 0 ∅ 0)
      ⊢ iprop(((ow c 0 ∗ (resPts c b (outC m c) ∗ outPts c b (outC m c)) ∗ semVal (outCell c b) 0) -∗ WP c (k ⟨⟩) Q) -∗
          WP c (.op (.waitDma2 (outS b) M1 M2 h1 h2) k) Q) := by
  unfold ow
  iintro ⟨#HR, ⟨%W, HO⟩, Hc, Hat⟩ Hk
  ihave HP := (recs_at m K (c, iOut b)) $$ HR
  icases HP with ⟨#HI, -⟩
  iapply (Rounds.wp_wait_rest_token 𝒱₀ ER (Rd m) (c : Thread nD τ) none (κ := K (c, iOut b))
    (wpE_waitDma2_eq 𝒱₀ (c : Thread nD τ) none Set.univ) (Set.mem_univ _) () (O := 0) (W := W) (R := 0) (m := 0) (T := ∅)
    (by rw [Nat.zero_add, hN]; exact (expect_out m c b).symm)) $$ [HO Hc Hat]
  · isplitr; · iexact HI
    isplitl [Hc]; · rw [hN]; iexact Hc
    isplitl [HO]; · iexact HO
    isplitr; · rw [MayWait_zero]; iempintro
    iexact Hat
  iintro ⟨HO, Hat, -, Hpay⟩
  ihave Hp := (Entails.of_eq (rest_out m c b)) $$ Hpay
  imod (Rounds.cell_close ER (Rd m) (Set.mem_univ (K (c, iOut b))) (fun h => h) (R := 0 + 1)
    (duties_later m (outCell c b))) $$ [Hat] with Hz
  · isplitr; · iexact HI
    iexact Hat
  iapply Hk
  isplitl [HO]; · iexists _; iexact HO
  isplitl [Hp] <;> iassumption

end Steps

end Cert.HaloProof

end
-- ==== Proof.Body.lean ====
/-
  The kernel's body on one device, part by part: from what the device holds at launch to what it holds at the end.
-/
module

public import proofs.«01_k».proof.Proof.Steps

@[expose] public section

noncomputable section

namespace Cert.HaloProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ) (ρ : Dev nD → PrngReg)
variable (K : Dev nD × CI → ℕ)

/-! ## Groups of resources -/

/-- A family over the transfers, at the four of one side. -/
def per4 (Φ : Fin 2 → Fin 2 → Fin 2 → sProp 𝕄) (s : Fin 2) : sProp 𝕄 := iprop(Φ 0 0 s ∗ Φ 1 0 s ∗ Φ 0 1 s ∗ Φ 1 1 s)

section Body
variable (c : Dev nD)

/-- The five operands in their staging buffers. -/
def stX : sProp 𝕄 := ((c : Thread nD τ).loc cc0_stg0_0) ↦{fullShare} xst m c
def stWq : sProp 𝕄 := ((c : Thread nD τ).loc cc0_stg1_0) ↦{fullShare} wqst m c
def stK : sProp 𝕄 := ((c : Thread nD τ).loc cc0_stg2_0) ↦{fullShare} kst m c
def stV : sProp 𝕄 := ((c : Thread nD τ).loc cc0_stg3_0) ↦{fullShare} vst m c
def stWo : sProp 𝕄 := ((c : Thread nD τ).loc cc0_stg4_0) ↦{fullShare} wost m c

/-- Slot `s` of a landing buffer is zero where nobody writes it. -/
def Clear (s : Fin 2) (g : S2x2x128x256.Idx → F .bf16) : Prop :=
  ¬ has (opp s) c = true → ∀ i, (i 0).val = s.val → g i = Scalar.ofBits .bf16 0x0000#16

theorem clear_of_zeroed {s : Fin 2} {f g : S2x2x128x256.Idx → F .bf16} (h : Zeroed s f g) : Clear c s g :=
  fun _ i hi => by rw [h i, if_pos hi]
theorem clear_keep {s t : Fin 2} {f g : S2x2x128x256.Idx → F .bf16} (h : Zeroed s f g) (hf : Clear c t f) : Clear c t g :=
  fun ht i hi => by
    rw [h i]; split
    · rfl
    · exact hf ht i hi

/-- The zero filling of slot `s` of both landing buffers, under the test that no neighbour writes it. -/
theorem fill_step {C : Prop} [Decidable C] (s : Fin 2) (hC : C ↔ ¬ has (opp s) c = true)
    (f2 f3 : S2x2x128x256.Idx → F .bf16) {w2 w3 : S1x2x128x256.Idx → F .bf16} (hw2 : w2 = k0_pay1) (hw3 : w3 = k0_pay1)
    {a1 : C → (Memref.whole cc0_scratch2).view.LoadsAt (rSlot s).toLoadRect} {a2 : C → (Memref.whole cc0_scratch3).view.LoadsAt (rSlot s).toLoadRect}
    {a3 : C → ((Memref.whole cc0_scratch2).access (rSlot s)).Stores Finset.univ} {a4 : C → ((Memref.whole cc0_scratch3).access (rSlot s)).Stores Finset.univ}
    {a5 a6 : C → (Finset.univ : Finset (rSlot s).shape.Idx) = Finset.univ ∨ ∀ a, (rSlot s).stride a = 1} (Q : PUnit → sProp 𝕄) :
    iprop((((c : Thread nD τ).loc cc0_scratch2) ↦{fullShare} f2) ∗ (((c : Thread nD τ).loc cc0_scratch3) ↦{fullShare} f3))
      ⊢ iprop((∀ (g2 : S2x2x128x256.Idx → F .bf16) (g3 : S2x2x128x256.Idx → F .bf16),
            ⌜Clear c s g2 ∧ Clear c s g3 ∧ (∀ t, Clear c t f2 → Clear c t g2) ∧ (∀ t, Clear c t f3 → Clear c t g3)⌝ -∗
            ((((c : Thread nD τ).loc cc0_scratch2) ↦{fullShare} g2) ∗ (((c : Thread nD τ).loc cc0_scratch3) ↦{fullShare} g3)) -∗ Q ⟨⟩) -∗
          WP c (dite C (fun h => Prog.lift (.load (Memref.whole cc0_scratch2) (rSlot s).toLoadRect (a1 h)) >>= fun _ =>
            Prog.lift (.store (Memref.whole cc0_scratch2) (rSlot s) w2 Finset.univ (a3 h) (a5 h)) >>= fun _ =>
            Prog.lift (.load (Memref.whole cc0_scratch3) (rSlot s).toLoadRect (a2 h)) >>= fun _ =>
            Prog.lift (.store (Memref.whole cc0_scratch3) (rSlot s) w3 Finset.univ (a4 h) (a6 h))) (fun _ => .ret ⟨⟩)) Q) := by
  by_cases h : C
  · rw [dif_pos h]
    unfold Prog.lift
    iintro ⟨H2, H3⟩ Hk
    iapply (wp_load 𝒱₀ (c : Thread nD τ) none Set.univ (m := Memref.whole cc0_scratch2) (Finset.subset_univ _)) $$ H2; iintro H2
    iapply (wp_store 𝒱₀ (c : Thread nD τ) none Set.univ (m := Memref.whole cc0_scratch2) (r := rSlot s) (Mk := Finset.univ) (Finset.subset_univ _)) $$ H2; iintro H2
    iapply (wp_load 𝒱₀ (c : Thread nD τ) none Set.univ (m := Memref.whole cc0_scratch3) (Finset.subset_univ _)) $$ H3; iintro H3
    iapply (wp_store 𝒱₀ (c : Thread nD τ) none Set.univ (m := Memref.whole cc0_scratch3) (r := rSlot s) (Mk := Finset.univ) (Finset.subset_univ _)) $$ H3; iintro H3
    rw [wp_ret]; imodintro
    ispecialize Hk $$ %_ %_
    iapply Hk $$ [] [H2 H3]
    · ipureintro
      exact ⟨clear_of_zeroed c (zero_store0 s f2 w2 hw2), clear_of_zeroed c (zero_store1 s f3 w3 hw3),
        fun t => clear_keep c (zero_store0 s f2 w2 hw2), fun t => clear_keep c (zero_store1 s f3 w3 hw3)⟩
    isplitl [H2] <;> iassumption
  · have hs : has (opp s) c = true := by by_contra h'; exact h (hC.mpr h')
    rw [dif_neg h]; unfold WP; rw [wp_ret]
    iintro ⟨H2, H3⟩ Hk
    imodintro
    ispecialize Hk $$ %f2 %f3
    iapply Hk $$ [] [H2 H3]
    · ipureintro
      exact ⟨fun h' => absurd hs h', fun h' => absurd hs h', fun t h => h, fun t h => h⟩
    isplitl [H2] <;> iassumption

/-- A program that has returned. -/
theorem wp_done {α : Type} {a : α} {Q : α → sProp 𝕄} : Q a ⊢ WP c (.ret a) Q := by
  unfold WP; rw [wp_ret]
  iintro H; imodintro; iexact H

/-- The credit a landing window's wait will use, where a neighbour sends. -/
def credIn (kd b s : Fin 2) : sProp 𝕄 := when (has (opp s) c) (cred (tallyAt (recvCell c kd b s) () N))
/-- The token to pay the neighbour on side `s` its unit with. -/
def tokBar (s : Fin 2) : sProp 𝕄 := when (has s c) (dutyTok ER (barCell (nbr s c)) 0 (opp s))

omit [FloatOps F] in
theorem nbr_opp_nbr (s : Fin 2) (h : has (opp s) c = true) : nbr s (nbr (opp s) c) = c := by
  revert h; revert s c; decide

theorem slot_out (s : Fin 2) (g2 g3 : S2x2x128x256.Idx → F .bf16) (h2 : Clear c s g2) (h3 : Clear c s g3) :
    iprop(tokBar (F := F) c (opp s) ∗ per4 (credIn (F := F) c) s
        ∗ (dstPts c 0 0 s (inDst 0 g2) ∗ dstPts c 0 1 s (inDst 0 g2)) ∗ dstPts c 1 0 s (inDst 1 g3) ∗ dstPts c 1 1 s (inDst 1 g3))
      ⊢ iprop(barDue (F := F) c (opp s) ∗ per4 (coming m c) s) := by
  unfold barDue tokBar per4 credIn coming
  by_cases h : has (opp s) c = true
  · simp only [when_true h, if_pos h]
    unfold barPay dstAny
    rw [opp_opp, nbr_opp_nbr c s h]
    iintro ⟨Ht, Hc, ⟨Ha, Hb⟩, Hd, He⟩
    iframe Ht Hc
    isplitl [Ha]; · iexists _; iexact Ha
    isplitl [Hd]; · iexists _; iexact Hd
    isplitl [Hb]; · iexists _; iexact Hb
    iexists _; iexact He
  · simp only [when_false h, if_neg h]
    rw [dstPts_congr c 0 0 s g2 (halo m 0 c) fun i hi => ?_, dstPts_congr c 0 1 s g2 (halo m 0 c) fun i hi => ?_,
      dstPts_congr c 1 0 s g3 (halo m 1 c) fun i hi => ?_, dstPts_congr c 1 1 s g3 (halo m 1 c) fun i hi => ?_]
    · iintro ⟨-, -, ⟨Ha, Hb⟩, Hd, He⟩
      isplitr; · iempintro
      iframe Ha Hd Hb He
    all_goals
      have h0 := ((mem_rWin _ _ i).mp hi).1
      rw [halo_none m _ s c h i h0]
    · exact h3 h i h0
    · exact h3 h i h0
    · exact h2 h i h0
    · exact h2 h i h0

abbrev prog1 : Prog (TpuEff nD τ sig (Elt F) Λ₀ .tc) (Σ' (d0 : Dev nD) (v3 : BitVec 32) (v4 : BitVec 32) (v5 : BitVec 1) (v6 : BitVec 1)
    (v13 : Sems sig S_) (v26 : FVec F S2x128x64 .bf16), Vec F S2x128x64 .bf16) :=
  k0_part1 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole main_v1) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    cc0_scratch5 cc0_scratch6 cc0_scratch7

/-- The first head's columns of the values, rounded. -/
def vHead0 : FVec F S2x128x64 .bf16 :=
  k0_pay6 ((Memref.whole cc0_stg3_0).view.readAt (Elt F)
    (Rect.unit (s := S2x128x4x64) ![0, 0, 0, 0] S2x128x1x64.size inb_S2x128x4x64_S2x128x1x64_0_0_0_0).toLoadRect (vst m c))

/-- A source buffer whose first `n` heads are the device's own block, rounded. -/
def src0Upto (n : ℕ) : sProp 𝕄 := iprop(∃ f, ⌜Filled (kvs m 0 c) f n⌝ ∗ (((c : Thread nD τ).loc cc0_scratch0) ↦{fullShare} f))
def src1Upto (n : ℕ) : sProp 𝕄 := iprop(∃ f, ⌜Filled (kvs m 1 c) f n⌝ ∗ (((c : Thread nD τ).loc cc0_scratch1) ↦{fullShare} f))

/-- The four scratch buffers of the transfers, at whatever contents. -/
def anyScr : sProp 𝕄 := iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f) ∗ (∃ f, ((c : Thread nD τ).loc cc0_scratch3) ↦{fullShare} f))

/-- Part 1: the windows nobody writes are filled with zeros, the others handed to the neighbours; the first head of the keys is stored. -/
theorem part1_wp (Q : _ → sProp 𝕄) :
    iprop(recs m K ∗ ow c (O₀ c) ∗ (tokBar (F := F) c 0 ∗ tokBar (F := F) c 1) ∗ (per4 (credIn (F := F) c) 0 ∗ per4 (credIn (F := F) c) 1)
        ∗ anyScr (F := F) c ∗ stK m c ∗ stV m c)
      ⊢ iprop((∀ (v3 v4 : BitVec 32) (v27 : Vec F S2x128x64 .bf16), (ow c (owe c order) ∗ (per4 (coming m c) 0 ∗ per4 (coming m c) 1)
            ∗ src0Upto m c 1 ∗ src1Upto m c 0 ∗ stK m c ∗ stV m c) -∗
            Q ⟨c, v3, v4, w5 c, w6 c, SemArray.scalar (sig.barrier 0 rfl), vHead0 m c, v27⟩) -∗ WP c prog1 Q) := by
  unfold prog1
  rw [k0_part1_eq_skeleton]; unfold k0_part1_skel
  rw [Prog.bind_lift, WP, wp_deviceId]
  unfold anyScr stK stV vHead0 w5 w6
  iintro ⟨#HR, HO, ⟨Ht0, Ht1⟩, ⟨Hc0, Hc1⟩, ⟨⟨%f0, H0⟩, ⟨%f1, H1⟩, ⟨%f2, H2⟩, ⟨%f3, H3⟩⟩, Hk, Hv⟩ HQ
  iapply guard_four
  iapply (fill_step c 0 (testNL c) f2 f3 rfl rfl) $$ [H2 H3]
  · isplitl [H2] <;> iassumption
  iintro %g2 %g3 %hg ⟨H2, H3⟩
  obtain ⟨hg2, hg3, -, -⟩ := hg
  iapply guard_four
  iapply (fill_step c 1 (testNR c) g2 g3 rfl rfl) $$ [H2 H3]
  · isplitl [H2] <;> iassumption
  iintro %e2 %e3 %he ⟨H2, H3⟩
  obtain ⟨he2, he3, hk2, hk3⟩ := he
  ihave H2 := (Entails.of_eq (dst_split0 c e2)) $$ H2
  ihave H3 := (Entails.of_eq (dst_split1 c e3)) $$ H3
  icases H2 with ⟨H2l, H2r⟩
  icases H3 with ⟨H3l, H3r⟩
  ihave HL := (slot_out m c 0 e2 e3 (hk2 0 hg2) (hk3 0 hg3)) $$ [Ht1 Hc0 H2l H3l]
  · iframe Hc0 H2l H3l; iexact Ht1
  icases HL with ⟨Hd1, Hc0⟩
  ihave HL := (slot_out m c 1 e2 e3 he2 he3) $$ [Ht0 Hc1 H2r H3r]
  · iframe Hc1 H2r H3r; iexact Ht0
  icases HL with ⟨Hd0, Hc1⟩
  iapply guard_one
  iapply (sig_step m K c 1 (testL c) _ (fun h => dev_left c h) (owe c order + dueBar c 0)) $$ [HO Hd1]
  · iframe HR; isplitl [HO]; · iexact HO
    iexact Hd1
  iintro HO
  iapply guard_one
  iapply (sig_step m K c 0 (testR c) _ (fun h => dev_right c h) (owe c order)) $$ [HO Hd0]
  · iframe HR; isplitl [HO]; · iexact HO
    iexact Hd0
  iintro HO
  iapply (wp_load 𝒱₀ (c : Thread nD τ) none Set.univ (m := Memref.whole cc0_stg2_0) (Finset.subset_univ _)) $$ Hk; iintro Hk
  iapply (wp_load 𝒱₀ (c : Thread nD τ) none Set.univ (m := Memref.whole cc0_scratch0) (Finset.subset_univ _)) $$ H0; iintro H0
  iapply (wp_store 𝒱₀ (c : Thread nD τ) none Set.univ (m := Memref.whole cc0_scratch0) (r := rHead 0) (Mk := Finset.univ) (Finset.subset_univ _)) $$ H0; iintro H0
  iapply (wp_load 𝒱₀ (c : Thread nD τ) none Set.univ (m := Memref.whole cc0_stg3_0) (Finset.subset_univ _)) $$ Hv; iintro Hv
  iapply (wp_load 𝒱₀ (c : Thread nD τ) none Set.univ (m := Memref.whole cc0_scratch1) (Finset.subset_univ _)) $$ H1; iintro H1
  iapply wp_done
  iapply HQ
  iframe HO Hc0 Hc1 Hk Hv
  unfold src0Upto src1Upto
  isplitl [H0]
  · iexists _
    isplitr
    rotate_left
    · iexact H0
    · ipureintro
      exact head_store0 _ _ 0 (fun i hi => absurd hi (Nat.not_lt_zero _)) _ rfl
  · iexists _
    isplitr
    rotate_left
    · iexact H1
    · ipureintro
      exact fun i hi => absurd hi (Nat.not_lt_zero _)

end Body

end Cert.HaloProof

end
-- ==== Proof.Parts.lean ====
/-
  Parts 2 to 9 of the kernel's body, each from what it needs to what it leaves.
-/
module

public import proofs.«01_k».proof.Proof.Body

@[expose] public section

noncomputable section

namespace Cert.HaloProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ) (ρ : Dev nD → PrngReg)
variable (K : Dev nD × CI → ℕ) (c : Dev nD)

/-! ## Loads and stores on the windows -/

/-- A landing window, loaded. -/
theorem load_dst0 (b s : Fin 2) {α : Type} {hl : (Memref.whole cc0_scratch2).view.LoadsAt (rWin s b).toLoadRect}
    {k : Vec F S1x1x128x256 .bf16 → Prog (TpuEff nD τ sig (Elt F) Λ₀ .tc) α} (Q : α → sProp 𝕄) :
    dstPts c 0 b s (dstC m 0 c) ⊢ iprop((dstPts c 0 b s (dstC m 0 c) -∗ WP c (k (rdD m 0 b s c)) Q) -∗
      WP c (.op (.load (Memref.whole cc0_scratch2) (rWin s b).toLoadRect hl) k) Q) := by
  unfold dstPts
  iintro H HQ
  iapply (wp_load 𝒱₀ (c : Thread nD τ) none Set.univ (m := Memref.whole cc0_scratch2) (reach_dst0 b s)) $$ H; iintro H
  iapply HQ; iexact H
theorem load_dst1 (b s : Fin 2) {α : Type} {hl : (Memref.whole cc0_scratch3).view.LoadsAt (rWin s b).toLoadRect}
    {k : Vec F S1x1x128x256 .bf16 → Prog (TpuEff nD τ sig (Elt F) Λ₀ .tc) α} (Q : α → sProp 𝕄) :
    dstPts c 1 b s (dstC m 1 c) ⊢ iprop((dstPts c 1 b s (dstC m 1 c) -∗ WP c (k (rdD m 1 b s c)) Q) -∗
      WP c (.op (.load (Memref.whole cc0_scratch3) (rWin s b).toLoadRect hl) k) Q) := by
  unfold dstPts
  iintro H HQ
  iapply (wp_load 𝒱₀ (c : Thread nD τ) none Set.univ (m := Memref.whole cc0_scratch3) (reach_dst1 b s)) $$ H; iintro H
  iapply HQ; iexact H
/-- One batch entry of the device's own block, loaded through the share kept. -/
theorem load_src0 (b : Fin 2) {α : Type} {hl : (Memref.whole cc0_scratch0).view.LoadsAt (rSrc b).toLoadRect}
    {k : Vec F S1x128x256 .bf16 → Prog (TpuEff nD τ sig (Elt F) Λ₀ .tc) α} (Q : α → sProp 𝕄) :
    srcPts m c 0 b keep ⊢ iprop((srcPts m c 0 b keep -∗ WP c (k (rdS m 0 b c)) Q) -∗
      WP c (.op (.load (Memref.whole cc0_scratch0) (rSrc b).toLoadRect hl) k) Q) := by
  unfold srcPts
  iintro H HQ
  iapply (wp_load 𝒱₀ (c : Thread nD τ) none Set.univ (m := Memref.whole cc0_scratch0) (reach_src0 b)) $$ H; iintro H
  iapply HQ; iexact H
theorem load_src1 (b : Fin 2) {α : Type} {hl : (Memref.whole cc0_scratch1).view.LoadsAt (rSrc b).toLoadRect}
    {k : Vec F S1x128x256 .bf16 → Prog (TpuEff nD τ sig (Elt F) Λ₀ .tc) α} (Q : α → sProp 𝕄) :
    srcPts m c 1 b keep ⊢ iprop((srcPts m c 1 b keep -∗ WP c (k (rdS m 1 b c)) Q) -∗
      WP c (.op (.load (Memref.whole cc0_scratch1) (rSrc b).toLoadRect hl) k) Q) := by
  unfold srcPts
  iintro H HQ
  iapply (wp_load 𝒱₀ (c : Thread nD τ) none Set.univ (m := Memref.whole cc0_scratch1) (reach_src1 b)) $$ H; iintro H
  iapply HQ; iexact H
/-- One head of the keys (of the values), rounded and stored beside the heads already there. -/
theorem head_step0 (h : Fin 4) {n n' : ℕ} (hn : n = h.val) (hn' : n' = h.val + 1) {α : Type} (w : Vec F S2x128x1x64 .f32 → FVec F S2x128x64 .bf16)
    (hw : ∀ v, w v = k0_pay5 v)
    {a1 : (Memref.whole cc0_stg2_0).view.LoadsAt (rHead4 h).toLoadRect} {a2 : (Memref.whole cc0_scratch0).view.LoadsAt (rHead h).toLoadRect}
    {a3 : ((Memref.whole cc0_scratch0).access (rHead h)).Stores Finset.univ}
    {a4 : (Finset.univ : Finset (rHead h).shape.Idx) = Finset.univ ∨ ∀ a, (rHead h).stride a = 1}
    {k : Prog (TpuEff nD τ sig (Elt F) Λ₀ .tc) α} (Q : α → sProp 𝕄) :
    iprop(src0Upto m c n ∗ stK m c) ⊢ iprop(((src0Upto m c n' ∗ stK m c) -∗ WP c k Q) -∗
      WP c (.op (.load (Memref.whole cc0_stg2_0) (rHead4 h).toLoadRect a1) fun v =>
        .op (.load (Memref.whole cc0_scratch0) (rHead h).toLoadRect a2) fun _ =>
        .op (.store (Memref.whole cc0_scratch0) (rHead h) (w v) Finset.univ a3 a4) fun _ => k) Q) := by
  subst hn hn'
  unfold src0Upto stK
  iintro ⟨⟨%f, %hf, H⟩, Hk⟩ HQ
  iapply (wp_load 𝒱₀ (c : Thread nD τ) none Set.univ (m := Memref.whole cc0_stg2_0) (Finset.subset_univ _)) $$ Hk; iintro Hk
  iapply (wp_load 𝒱₀ (c : Thread nD τ) none Set.univ (m := Memref.whole cc0_scratch0) (Finset.subset_univ _)) $$ H; iintro H
  iapply (wp_store 𝒱₀ (c : Thread nD τ) none Set.univ (m := Memref.whole cc0_scratch0) (r := rHead h) (Mk := Finset.univ) (Finset.subset_univ _)) $$ H; iintro H
  iapply HQ
  iframe Hk
  iexists _
  isplitr
  rotate_left
  · iexact H
  · ipureintro
    exact head_store0 _ _ h hf _ (hw _)
theorem head_step1 (h : Fin 4) {n n' : ℕ} (hn : n = h.val) (hn' : n' = h.val + 1) {α : Type} (w : Vec F S2x128x1x64 .f32 → FVec F S2x128x64 .bf16)
    (hw : ∀ v, w v = k0_pay5 v)
    {a1 : (Memref.whole cc0_stg3_0).view.LoadsAt (rHead4 h).toLoadRect} {a2 : (Memref.whole cc0_scratch1).view.LoadsAt (rHead h).toLoadRect}
    {a3 : ((Memref.whole cc0_scratch1).access (rHead h)).Stores Finset.univ}
    {a4 : (Finset.univ : Finset (rHead h).shape.Idx) = Finset.univ ∨ ∀ a, (rHead h).stride a = 1}
    {k : Prog (TpuEff nD τ sig (Elt F) Λ₀ .tc) α} (Q : α → sProp 𝕄) :
    iprop(src1Upto m c n ∗ stV m c) ⊢ iprop(((src1Upto m c n' ∗ stV m c) -∗ WP c k Q) -∗
      WP c (.op (.load (Memref.whole cc0_stg3_0) (rHead4 h).toLoadRect a1) fun v =>
        .op (.load (Memref.whole cc0_scratch1) (rHead h).toLoadRect a2) fun _ =>
        .op (.store (Memref.whole cc0_scratch1) (rHead h) (w v) Finset.univ a3 a4) fun _ => k) Q) := by
  subst hn hn'
  unfold src1Upto stV
  iintro ⟨⟨%f, %hf, H⟩, Hk⟩ HQ
  iapply (wp_load 𝒱₀ (c : Thread nD τ) none Set.univ (m := Memref.whole cc0_stg3_0) (Finset.subset_univ _)) $$ Hk; iintro Hk
  iapply (wp_load 𝒱₀ (c : Thread nD τ) none Set.univ (m := Memref.whole cc0_scratch1) (Finset.subset_univ _)) $$ H; iintro H
  iapply (wp_store 𝒱₀ (c : Thread nD τ) none Set.univ (m := Memref.whole cc0_scratch1) (r := rHead h) (Mk := Finset.univ) (Finset.subset_univ _)) $$ H; iintro H
  iapply HQ
  iframe Hk
  iexists _
  isplitr
  rotate_left
  · iexact H
  · ipureintro
    exact head_store1 _ _ h hf _ (hw _)

/-- One batch entry of the result, stored in its window. -/
theorem store_res (b : Fin 2) (w : S1x128x512.Idx → F .f32) (hw : ∀ x y, w (ix3 (0 : Fin 1) x y) = outC m c (ix3 b x y)) {α : Type}
    {a1 : (Memref.whole cc0_scratch4).view.LoadsAt (rOut b).toLoadRect}
    {a3 : ((Memref.whole cc0_scratch4).access (rOut b)).Stores Finset.univ}
    {a4 : (Finset.univ : Finset (rOut b).shape.Idx) = Finset.univ ∨ ∀ a, (rOut b).stride a = 1}
    {k : Prog (TpuEff nD τ sig (Elt F) Λ₀ .tc) α} (f : S2x128x512.Idx → F .f32) (Q : α → sProp 𝕄) :
    outPts c b f ⊢ iprop((outPts c b (outC m c) -∗ WP c k Q) -∗
      WP c (.op (.load (Memref.whole cc0_scratch4) (rOut b).toLoadRect a1) fun _ =>
        .op (.store (Memref.whole cc0_scratch4) (rOut b) w Finset.univ a3 a4) fun _ => k) Q) := by
  rw [← outPts_congr c b _ _ (out_store b (outC m c) f w hw)]
  unfold outPts
  iintro H HQ
  iapply (wp_load 𝒱₀ (c : Thread nD τ) none Set.univ (m := Memref.whole cc0_scratch4) (reach_out b)) $$ H; iintro H
  iapply (wp_store 𝒱₀ (c : Thread nD τ) none Set.univ (m := Memref.whole cc0_scratch4) (r := rOut b) (Mk := Finset.univ) (store_out b)) $$ H; iintro H
  iapply HQ; iexact H

/-! ## Parts 2 and 3: the other heads, the barrier, the transfers -/

abbrev prog2 (v26 : FVec F S2x128x64 .bf16) (v27 : Vec F S2x128x64 .bf16) : Prog (TpuEff nD τ sig (Elt F) Λ₀ .tc) PUnit :=
  k0_part2 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole main_v1) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    cc0_scratch5 cc0_scratch6 cc0_scratch7 v26 v27

/-- Part 2: heads 1 and 2. -/
theorem part2_wp (v27 : Vec F S2x128x64 .bf16) (Q : PUnit → sProp 𝕄) :
    iprop(src0Upto m c 1 ∗ src1Upto m c 0 ∗ stK m c ∗ stV m c)
      ⊢ iprop(((src0Upto m c 3 ∗ src1Upto m c 3 ∗ stK m c ∗ stV m c) -∗ Q ⟨⟩) -∗ WP c (prog2 (vHead0 m c) v27) Q) := by
  unfold prog2
  rw [k0_part2_eq_skeleton]; unfold k0_part2_skel
  iintro ⟨H0, H1, Hk, Hv⟩ HQ
  ihave H1 := (show src1Upto m c 0 ⊢ iprop(∃ f, ⌜Filled (kvs m 1 c) f 0⌝ ∗ (((c : Thread nD τ).loc cc0_scratch1) ↦{fullShare} f)) from .rfl) $$ H1
  icases H1 with ⟨%f, %hf, H1⟩
  iapply (wp_store 𝒱₀ (c : Thread nD τ) none Set.univ (m := Memref.whole cc0_scratch1) (r := rHead 0) (Mk := Finset.univ) (Finset.subset_univ _)) $$ H1; iintro H1
  ihave H1 := (show _ ⊢ src1Upto m c 1 from ?_) $$ H1
  · unfold src1Upto
    iintro H; iexists _
    isplitr
    rotate_left
    · iexact H
    · ipureintro; exact head_store1 _ _ 0 hf _ rfl
  iapply (head_step0 m c 1 (n := 1) (n' := 2) rfl rfl k0_pay8 (fun _ => rfl)) $$ [H0 Hk]
  · isplitl [H0] <;> iassumption
  iintro ⟨H0, Hk⟩
  iapply (head_step1 m c 1 (n := 1) (n' := 2) rfl rfl k0_pay9 (fun _ => rfl)) $$ [H1 Hv]
  · isplitl [H1] <;> iassumption
  iintro ⟨H1, Hv⟩
  iapply (head_step0 m c 2 (n := 2) (n' := 3) rfl rfl k0_pay10 (fun _ => rfl)) $$ [H0 Hk]
  · isplitl [H0] <;> iassumption
  iintro ⟨H0, Hk⟩
  iapply (head_step1 m c 2 (n := 2) (n' := 3) rfl rfl k0_pay11 (fun _ => rfl)) $$ [H1 Hv]
  · isplitl [H1] <;> iassumption
  iintro ⟨H1, Hv⟩
  iapply wp_done
  iapply HQ
  iframe H0 Hk Hv
  iexact H1

/-- The tokens of transfer `(kd, b, s)`: its source's and its landing's. -/
def tokSend (kd b s : Fin 2) : sProp 𝕄 :=
  when (has s c) iprop(dutyTok ER (sendCell c kd b s) 0 (0 : Fin 2) ∗ dutyTok ER (recvCell (nbr s c) kd b s) 0 (0 : Fin 2))

theorem ready_all (s : Fin 2) :
    iprop(per4 (fun kd b s => srcPts m c kd b (shr s)) s ∗ per4 (tokSend (F := F) c) s ∗ when (has s c) (barPay (F := F) c s)) ⊢ per4 (ready m c) s := by
  unfold per4 tokSend ready
  by_cases h : has s c = true
  · simp only [when_true h]
    unfold barPay
    iintro ⟨⟨Ha, Hb, Hd, He⟩, ⟨⟨Ta, Ua⟩, ⟨Tb, Ub⟩, ⟨Td, Ud⟩, Te, Ue⟩, Wa, Wb, Wd, We⟩
    iframe Ha Hb Hd He Ta Ua Tb Ub Td Ud Te Ue Wa Wb Wd We
  · simp only [when_false h]
    iintro ⟨⟨Ha, Hb, Hd, He⟩, -, -⟩
    iframe Ha Hb Hd He

/-- The shares of the source windows kept to load from. -/
def keeps : sProp 𝕄 := iprop(srcPts m c 0 0 keep ∗ srcPts m c 1 0 keep ∗ srcPts m c 0 1 keep ∗ srcPts m c 1 1 keep)

/-- The source buffers, full, are the shares of all transfers and the shares kept. -/
theorem src_all : iprop((((c : Thread nD τ).loc cc0_scratch0) ↦{fullShare} kvs m 0 c) ∗ (((c : Thread nD τ).loc cc0_scratch1) ↦{fullShare} kvs m 1 c))
    ⊣⊢ iprop(per4 (fun kd b s => srcPts m c kd b (shr s)) 0 ∗ per4 (fun kd b s => srcPts m c kd b (shr s)) 1 ∗ keeps m c) := by
  rw [src_split0, src_split1]
  unfold per4 keeps
  constructor
  · iintro ⟨⟨Ha, Hb⟩, Hd, He⟩
    ihave Ha := (src_thirds m c 0 0).1 $$ Ha
    ihave Hb := (src_thirds m c 0 1).1 $$ Hb
    ihave Hd := (src_thirds m c 1 0).1 $$ Hd
    ihave He := (src_thirds m c 1 1).1 $$ He
    icases Ha with ⟨A0, A1, A2⟩
    icases Hb with ⟨B0, B1, B2⟩
    icases Hd with ⟨D0, D1, D2⟩
    icases He with ⟨E0, E1, E2⟩
    iframe A0 A1 A2 B0 B1 B2 D0 D1 D2 E0 E1 E2
  · iintro ⟨⟨A0, D0, B0, E0⟩, ⟨A1, D1, B1, E1⟩, A2, D2, B2, E2⟩
    ihave Ha := (src_thirds m c 0 0).2 $$ [A0 A1 A2]; · iframe A0 A1 A2
    ihave Hb := (src_thirds m c 0 1).2 $$ [B0 B1 B2]; · iframe B0 B1 B2
    ihave Hd := (src_thirds m c 1 0).2 $$ [D0 D1 D2]; · iframe D0 D1 D2
    ihave He := (src_thirds m c 1 1).2 $$ [E0 E1 E2]; · iframe E0 E1 E2
    iframe Ha Hb Hd He

abbrev prog3 (v3 v4 : BitVec 32) : Prog (TpuEff nD τ sig (Elt F) Λ₀ .tc) PUnit :=
  k0_part3 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole main_v1) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    cc0_scratch5 cc0_scratch6 cc0_scratch7 c v3 v4 (w5 c) (w6 c) (SemArray.scalar (sig.barrier 0 rfl))

set_option maxHeartbeats 1000000 in
/-- Part 3: head 3, the barrier, and seven of the eight transfers. -/
theorem part3_wp (v3 v4 : BitVec 32) (Q : PUnit → sProp 𝕄) :
    iprop(recs m K ∗ levAts L lv ∗ ow c (owe c order) ∗ (cred (tallyAt (barCell c) () (nNbr c)) ∗ atPos ER (barCell c) 0 ∅ 0)
        ∗ (per4 (tokSend (F := F) c) 0 ∗ per4 (tokSend (F := F) c) 1) ∗ src0Upto m c 3 ∗ src1Upto m c 3 ∗ stK m c ∗ stV m c)
      ⊢ iprop(((ow c (owe c [(1, 1, 1)]) ∗ per4 (sent m c) 0 ∗ (sent m c 0 0 1 ∗ sent m c 1 0 1 ∗ sent m c 0 1 1) ∗ ready m c 1 1 1
            ∗ keeps m c ∗ semVal (barCell c) 0 ∗ stK m c ∗ stV m c) -∗ Q ⟨⟩) -∗ WP c (prog3 c v3 v4) Q) := by
  unfold prog3
  rw [k0_part3_eq_skeleton]; unfold k0_part3_skel
  iintro ⟨#HR, #Hlev, HO, ⟨Hcb, Hab⟩, ⟨T0, T1⟩, H0, H1, Hk, Hv⟩ HQ
  iapply (head_step0 m c 3 (n := 3) (n' := 4) rfl rfl k0_pay12 (fun _ => rfl)) $$ [H0 Hk]
  · isplitl [H0] <;> iassumption
  iintro ⟨H0, Hk⟩
  iapply (head_step1 m c 3 (n := 3) (n' := 4) rfl rfl k0_pay13 (fun _ => rfl)) $$ [H1 Hv]
  · isplitl [H1] <;> iassumption
  iintro ⟨H1, Hv⟩
  unfold src0Upto src1Upto
  icases H0 with ⟨%f0, %hf0, H0⟩
  icases H1 with ⟨%f1, %hf1, H1⟩
  obtain rfl := filled_four hf0
  obtain rfl := filled_four hf1
  iapply (bar_step m K c order) $$ [HO Hcb Hab]
  · iframe HR Hlev HO Hcb Hab
  iintro ⟨HO, ⟨P0, P1⟩, Hzb⟩
  ihave HS := (src_all m c).1 $$ [H0 H1]
  · iframe H0 H1
  icases HS with ⟨S0, S1, Hkeep⟩
  ihave R0 := (ready_all m c 0) $$ [S0 T0 P0]
  · iframe S0 T0 P0
  ihave R1 := (ready_all m c 1) $$ [S1 T1 P1]
  · iframe S1 T1 P1
  unfold per4
  icases R0 with ⟨A0, D0, B0, E0⟩
  icases R1 with ⟨A1, D1, B1, E1⟩
  iapply guard_one
  iapply (send_step m K c 0 0 0 (testR c) _ (fun h => dev_right c h) _) $$ [HO A0]
  · iframe HR; isplitl [HO]; · iexact HO
    iexact A0
  iintro ⟨HO, A0⟩
  iapply guard_one
  iapply (send_step m K c 0 0 1 (testL c) _ (fun h => dev_left c h) _) $$ [HO A1]
  · iframe HR; isplitl [HO]; · iexact HO
    iexact A1
  iintro ⟨HO, A1⟩
  iapply guard_one
  iapply (send_step m K c 1 0 0 (testR c) _ (fun h => dev_right c h) _) $$ [HO D0]
  · iframe HR; isplitl [HO]; · iexact HO
    iexact D0
  iintro ⟨HO, D0⟩
  iapply guard_one
  iapply (send_step m K c 1 0 1 (testL c) _ (fun h => dev_left c h) _) $$ [HO D1]
  · iframe HR; isplitl [HO]; · iexact HO
    iexact D1
  iintro ⟨HO, D1⟩
  iapply guard_one
  iapply (send_step m K c 0 1 0 (testR c) _ (fun h => dev_right c h) _) $$ [HO B0]
  · iframe HR; isplitl [HO]; · iexact HO
    iexact B0
  iintro ⟨HO, B0⟩
  iapply guard_one
  iapply (send_step m K c 0 1 1 (testL c) _ (fun h => dev_left c h) _) $$ [HO B1]
  · iframe HR; isplitl [HO]; · iexact HO
    iexact B1
  iintro ⟨HO, B1⟩
  iapply guard_one
  iapply (send_step m K c 1 1 0 (testR c) _ (fun h => dev_right c h) _) $$ [HO E0]
  · iframe HR; isplitl [HO]; · iexact HO
    iexact E0
  iintro ⟨HO, E0⟩
  iapply wp_done
  iapply HQ
  iframe HO A0 D0 B0 E0 A1 D1 B1 E1 Hkeep Hzb Hk Hv

/-! ## Parts 4 to 9: the arrivals, the two batch entries of the result -/

/-- A landing window before its arrival is waited for, with the place in its semaphore's schedule; and after. -/
def awaiting (kd b s : Fin 2) : sProp 𝕄 := iprop(coming m c kd b s ∗ atPos ER (recvCell c kd b s) 0 ∅ 0)
def arrived (kd b s : Fin 2) : sProp 𝕄 := iprop(dstPts c kd b s (dstC m kd c) ∗ semVal (recvCell c kd b s) 0)

abbrev prog4 (v3 v4 : BitVec 32) : Prog (TpuEff nD τ sig (Elt F) Λ₀ .tc) (Σ' (v92 : FVec F S256x256 .f32) (v102 : IVec S128x384 1) (v113 : FVec F S384x256 .bf16) (v115 : FVec F S128x64 .bf16) (v116 : FVec F S384x64 .bf16), FVec F S128x384 .f32) :=
  k0_part4 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole main_v1) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    cc0_scratch5 cc0_scratch6 cc0_scratch7 c v3 v4 (w5 c) (w6 c)

/-- Part 4: the last transfer; the queries and the mask; the keys of batch entry 0. -/
theorem part4_wp (v3 v4 : BitVec 32) (Q : _ → sProp 𝕄) :
    iprop(recs m K ∗ ow c (owe c [(1, 1, 1)]) ∗ ready m c 1 1 1 ∗ stX m c ∗ stWq m c ∗ srcPts m c 0 0 keep ∗ awaiting m c 0 0 0 ∗ awaiting m c 0 0 1)
      ⊢ iprop(((ow c 0 ∗ sent m c 1 1 1 ∗ stX m c ∗ stWq m c ∗ srcPts m c 0 0 keep ∗ arrived m c 0 0 0 ∗ arrived m c 0 0 1) -∗
            Q ⟨qAll m c, msk c, kc0 m c, k0_pay17 (rdX m c) (rdWq m c), k0_pay18 (rdD m 0 0 0 c) (rdS m 0 0 c) (rdD m 0 0 1 c), cst0⟩) -∗
          WP c (prog4 c v3 v4) Q) := by
  unfold prog4
  rw [k0_part4_eq_skeleton]; unfold k0_part4_skel
  unfold awaiting arrived stX stWq qAll msk kc0 rdX rdWq cst0
  iintro ⟨#HR, HO, E1, Hx, Hw, Hs, ⟨Ac, Aa⟩, Bc, Ba⟩ HQ
  iapply guard_one
  iapply (send_step m K c 1 1 1 (testL c) _ (fun h => dev_left c h) []) $$ [HO E1]
  · iframe HR; isplitl [HO]; · iexact HO
    iexact E1
  iintro ⟨HO, E1⟩
  ihave HO := (show ow (F := F) c (owe c []) ⊢ ow c 0 from .rfl) $$ HO
  iapply (wp_load 𝒱₀ (c : Thread nD τ) none Set.univ (m := Memref.whole cc0_stg0_0) (Finset.subset_univ _)) $$ Hx; iintro Hx
  iapply (wp_load 𝒱₀ (c : Thread nD τ) none Set.univ (m := Memref.whole cc0_stg1_0) (Finset.subset_univ _)) $$ Hw; iintro Hw
  iapply guard_one
  iapply (recv_step m K c 0 0 0 (testL c) (by first | exact N_src 0 0 | exact N_dst 0 0 0)) $$ [HO Ac Aa]
  · iframe HR HO Ac Aa
  iintro ⟨HO, Ad, Az⟩
  iapply guard_one
  iapply (recv_step m K c 0 0 1 (testR c) (by first | exact N_src 0 0 | exact N_dst 0 0 1)) $$ [HO Bc Ba]
  · iframe HR HO Bc Ba
  iintro ⟨HO, Bd, Bz⟩
  iapply (load_dst0 m c 0 0) $$ Ad; iintro Ad
  iapply (load_src0 m c 0) $$ Hs; iintro Hs
  iapply (load_dst0 m c 0 1) $$ Bd; iintro Bd
  iapply wp_done
  iapply HQ
  iframe HO E1 Hx Hw Hs Ad Az Bd Bz

abbrev prog6 (v3 v4 : BitVec 32) (v124 : FVec F S128x1 .f32) (v125 : FVec F S128x384 .bf16) (v136 : FVec F S128x1 .f32) (v137 : FVec F S128x384 .bf16) (v148 : FVec F S128x1 .f32) (v149 : FVec F S128x384 .bf16) (v160 : FVec F S128x1 .f32) (v161 : FVec F S128x384 .bf16) : Prog (TpuEff nD τ sig (Elt F) Λ₀ .tc) PUnit :=
  k0_part6 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole main_v1) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    cc0_scratch5 cc0_scratch6 cc0_scratch7 v3 v4 (w5 c) (w6 c) v124 v125 v136 v137 v148 v149 v160 v161

/-- Part 6: the values of batch entry 0, and its result stored. -/
theorem part6_wp (v3 v4 : BitVec 32) (v124 : FVec F S128x1 .f32) (v125 : FVec F S128x384 .bf16) (v136 : FVec F S128x1 .f32) (v137 : FVec F S128x384 .bf16) (v148 : FVec F S128x1 .f32) (v149 : FVec F S128x384 .bf16) (v160 : FVec F S128x1 .f32) (v161 : FVec F S128x384 .bf16)
    (hw : k0_pay31 v124 v125 v136 v137 v148 v149 v160 v161 (rdD m 1 0 0 c) (rdS m 1 0 c) (rdD m 1 0 1 c) (rdWo m c) = out0 m c) (f : S2x128x512.Idx → F .f32) (Q : PUnit → sProp 𝕄) :
    iprop(recs m K ∗ ow c 0 ∗ stWo m c ∗ srcPts m c 1 0 keep ∗ outPts c 0 f ∗ awaiting m c 1 0 0 ∗ awaiting m c 1 0 1)
      ⊢ iprop(((ow c 0 ∗ stWo m c ∗ srcPts m c 1 0 keep ∗ outPts c 0 (outC m c) ∗ arrived m c 1 0 0 ∗ arrived m c 1 0 1) -∗ Q ⟨⟩) -∗
          WP c (prog6 c v3 v4 v124 v125 v136 v137 v148 v149 v160 v161) Q) := by
  unfold prog6
  rw [k0_part6_eq_skeleton]; unfold k0_part6_skel
  unfold awaiting arrived stWo
  iintro ⟨#HR, HO, Hw, Hs, Ho, ⟨Ac, Aa⟩, Bc, Ba⟩ HQ
  iapply guard_one
  iapply (recv_step m K c 1 0 0 (testL c) (by first | exact N_src 1 0 | exact N_dst 1 0 0)) $$ [HO Ac Aa]
  · iframe HR HO Ac Aa
  iintro ⟨HO, Ad, Az⟩
  iapply guard_one
  iapply (recv_step m K c 1 0 1 (testR c) (by first | exact N_src 1 0 | exact N_dst 1 0 1)) $$ [HO Bc Ba]
  · iframe HR HO Bc Ba
  iintro ⟨HO, Bd, Bz⟩
  iapply (load_dst1 m c 0 0) $$ Ad; iintro Ad
  iapply (load_src1 m c 0) $$ Hs; iintro Hs
  iapply (load_dst1 m c 0 1) $$ Bd; iintro Bd
  iapply (wp_load 𝒱₀ (c : Thread nD τ) none Set.univ (m := Memref.whole cc0_stg4_0) (Finset.subset_univ _)) $$ Hw; iintro Hw
  iapply (store_res m c 0 (k0_pay31 v124 v125 v136 v137 v148 v149 v160 v161 (rdD m 1 0 0 c) (rdS m 1 0 c) (rdD m 1 0 1 c) (rdWo m c)) (fun x y => by rw [hw]; rfl) f) $$ Ho; iintro Ho
  iapply wp_done
  iapply HQ
  iframe HO Hw Hs Ho Ad Az Bd Bz

abbrev prog7 (v3 v4 : BitVec 32) : Prog (TpuEff nD τ sig (Elt F) Λ₀ .tc) (Σ' (v212 : FVec F S384x256 .bf16) (v223 : FVec F S128x1 .f32) (v224 : FVec F S128x384 .bf16) (v226 : FVec F S128x64 .bf16) (v227 : FVec F S384x64 .bf16), FVec F S128x384 .f32) :=
  k0_part7 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole main_v1) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    cc0_scratch5 cc0_scratch6 cc0_scratch7 v3 v4 (w5 c) (w6 c) (qAll m c) (msk c)

/-- Part 7: the copy of the first result started; the keys of batch entry 1. -/
theorem part7_wp (v3 v4 : BitVec 32) (f : S2x128x512.Idx → F .f32) (Q : _ → sProp 𝕄) :
    iprop(recs m K ∗ ow c 0 ∗ (outPts c 0 (outC m c) ∗ resPts c 0 f ∗ dutyTok ER (outCell c 0) 0 (0 : Fin 2))
        ∗ srcPts m c 0 1 keep ∗ awaiting m c 0 1 0 ∗ awaiting m c 0 1 1)
      ⊢ iprop(((ow c 0 ∗ cred (tallyAt (outCell c 0) () NO) ∗ srcPts m c 0 1 keep ∗ arrived m c 0 1 0 ∗ arrived m c 0 1 1) -∗
            Q ⟨kc1 m c, k0_pay34 (qAll m c) (msk c) (rdD m 0 1 0 c) (rdS m 0 1 c) (rdD m 0 1 1 c), k0_pay35 (qAll m c) (msk c) (rdD m 0 1 0 c) (rdS m 0 1 c) (rdD m 0 1 1 c), k0_pay36 (qAll m c), k0_pay37 (rdD m 0 1 0 c) (rdS m 0 1 c) (rdD m 0 1 1 c), cst0⟩) -∗
          WP c (prog7 m c v3 v4) Q) := by
  unfold prog7
  rw [k0_part7_eq_skeleton]; unfold k0_part7_skel
  unfold awaiting arrived kc1 cst0
  iintro ⟨#HR, HO, ⟨Ho, Hr, Ht⟩, Hs, ⟨Ac, Aa⟩, Bc, Ba⟩ HQ
  iapply (copy_step m K c 0 f) $$ [Ho Hr Ht]
  · iframe HR Ho Hr Ht
  iintro Hcr
  iapply guard_one
  iapply (recv_step m K c 0 1 0 (testL c) (by first | exact N_src 0 1 | exact N_dst 0 1 0)) $$ [HO Ac Aa]
  · iframe HR HO Ac Aa
  iintro ⟨HO, Ad, Az⟩
  iapply guard_one
  iapply (recv_step m K c 0 1 1 (testR c) (by first | exact N_src 0 1 | exact N_dst 0 1 1)) $$ [HO Bc Ba]
  · iframe HR HO Bc Ba
  iintro ⟨HO, Bd, Bz⟩
  iapply (load_dst0 m c 1 0) $$ Ad; iintro Ad
  iapply (load_src0 m c 1) $$ Hs; iintro Hs
  iapply (load_dst0 m c 1 1) $$ Bd; iintro Bd
  iapply wp_done
  iapply HQ
  iframe HO Hcr Hs Ad Az Bd Bz

abbrev prog8 (v3 v4 : BitVec 32) (v92 : FVec F S256x256 .f32) (v102 : IVec S128x384 1) (v212 : FVec F S384x256 .bf16) (v226 : FVec F S128x64 .bf16) (v227 : FVec F S384x64 .bf16) (cst_148 : FVec F S128x384 .f32) : Prog (TpuEff nD τ sig (Elt F) Λ₀ .tc) (Σ' (v235 : FVec F S128x1 .f32) (v236 : FVec F S128x384 .bf16) (v247 : FVec F S128x1 .f32) (v248 : FVec F S128x384 .bf16) (v259 : FVec F S128x1 .f32) (v260 : FVec F S128x384 .bf16), FVec F S128x256 .bf16) :=
  k0_part8 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole main_v1) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    cc0_scratch5 cc0_scratch6 cc0_scratch7 v3 v4 (w5 c) (w6 c) v92 v102 v212 v226 v227 cst_148

/-- Part 8: the values of batch entry 1 arrive; the weights of its heads. -/
theorem part8_wp (v3 v4 : BitVec 32) (v92 : FVec F S256x256 .f32) (v102 : IVec S128x384 1) (v212 : FVec F S384x256 .bf16) (v226 : FVec F S128x64 .bf16) (v227 : FVec F S384x64 .bf16) (cst_148 : FVec F S128x384 .f32) (Q : _ → sProp 𝕄) :
    iprop(recs m K ∗ ow c 0 ∗ awaiting m c 1 1 0 ∗ awaiting m c 1 1 1)
      ⊢ iprop(((ow c 0 ∗ arrived m c 1 1 0 ∗ arrived m c 1 1 1) -∗
            Q ⟨k0_pay39 v102 v226 v227 cst_148, k0_pay40 v102 v226 v227 cst_148, k0_pay42 v92 v102 v212, k0_pay43 v92 v102 v212,
              k0_pay45 v92 v102 v212, k0_pay46 v92 v102 v212, k0_pay47 (rdD m 1 1 0 c)⟩) -∗
          WP c (prog8 c v3 v4 v92 v102 v212 v226 v227 cst_148) Q) := by
  unfold prog8
  rw [k0_part8_eq_skeleton]; unfold k0_part8_skel
  unfold awaiting arrived
  iintro ⟨#HR, HO, ⟨Ac, Aa⟩, Bc, Ba⟩ HQ
  iapply guard_one
  iapply (recv_step m K c 1 1 0 (testL c) (by first | exact N_src 1 1 | exact N_dst 1 1 0)) $$ [HO Ac Aa]
  · iframe HR HO Ac Aa
  iintro ⟨HO, Ad, Az⟩
  iapply guard_one
  iapply (recv_step m K c 1 1 1 (testR c) (by first | exact N_src 1 1 | exact N_dst 1 1 1)) $$ [HO Bc Ba]
  · iframe HR HO Bc Ba
  iintro ⟨HO, Bd, Bz⟩
  iapply (load_dst1 m c 1 0) $$ Ad; iintro Ad
  iapply wp_done
  iapply HQ
  iframe HO Ad Az Bd Bz

abbrev prog9 (v223 : FVec F S128x1 .f32) (v224 : FVec F S128x384 .bf16) (v235 : FVec F S128x1 .f32) (v236 : FVec F S128x384 .bf16) (v247 : FVec F S128x1 .f32) (v248 : FVec F S128x384 .bf16) (v259 : FVec F S128x1 .f32) (v260 : FVec F S128x384 .bf16) (v266 : FVec F S128x256 .bf16) : Prog (TpuEff nD τ sig (Elt F) Λ₀ .tc) (Σ' (v301 : BitVec 32), BitVec 32) :=
  k0_part9 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole main_v1) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    cc0_scratch5 cc0_scratch6 cc0_scratch7 (w6 c) v223 v224 v235 v236 v247 v248 v259 v260 v266

/-- Part 9: the result of batch entry 1 stored, and its copy started. -/
theorem part9_wp (v223 : FVec F S128x1 .f32) (v224 : FVec F S128x384 .bf16) (v235 : FVec F S128x1 .f32) (v236 : FVec F S128x384 .bf16) (v247 : FVec F S128x1 .f32) (v248 : FVec F S128x384 .bf16) (v259 : FVec F S128x1 .f32) (v260 : FVec F S128x384 .bf16) (v266 : FVec F S128x256 .bf16)
    (hw : k0_pay48 v223 v224 v235 v236 v247 v248 v259 v260 v266 (rdS m 1 1 c) (rdD m 1 1 1 c) (rdWo m c) = out1 m c) (f f' : S2x128x512.Idx → F .f32) (Q : _ → sProp 𝕄) :
    iprop(recs m K ∗ stWo m c ∗ srcPts m c 1 1 keep ∗ arrived m c 1 1 1 ∗ outPts c 1 f ∗ resPts c 1 f' ∗ dutyTok ER (outCell c 1) 0 (0 : Fin 2))
      ⊢ iprop(((stWo m c ∗ srcPts m c 1 1 keep ∗ arrived m c 1 1 1 ∗ cred (tallyAt (outCell c 1) () NO)) -∗ Q ⟨Scalar.extui (w6 c), 0#32⟩) -∗
          WP c (prog9 c v223 v224 v235 v236 v247 v248 v259 v260 v266) Q) := by
  unfold prog9
  rw [k0_part9_eq_skeleton]; unfold k0_part9_skel
  unfold arrived stWo
  iintro ⟨#HR, Hw, Hs, ⟨Bd, Bz⟩, Ho, Hr, Ht⟩ HQ
  iapply (load_src1 m c 1) $$ Hs; iintro Hs
  iapply (load_dst1 m c 1 1) $$ Bd; iintro Bd
  iapply (wp_load 𝒱₀ (c : Thread nD τ) none Set.univ (m := Memref.whole cc0_stg4_0) (Finset.subset_univ _)) $$ Hw; iintro Hw
  iapply (store_res m c 1 (k0_pay48 v223 v224 v235 v236 v247 v248 v259 v260 v266 (rdS m 1 1 c) (rdD m 1 1 1 c) (rdWo m c)) (fun x y => by rw [hw]; rfl) f) $$ Ho; iintro Ho
  iapply (copy_step m K c 1 f') $$ [Ho Hr Ht]
  · iframe HR Ho Hr Ht
  iintro Hcr
  iapply wp_done
  iapply HQ
  iframe Hw Hs Bd Bz Hcr

end Cert.HaloProof

end
-- ==== Proof.Run.lean ====
/-
  The whole body on one device: the parts in order, then the waits for the source windows and for the two copies of the result.
-/
module

public import proofs.«01_k».proof.Proof.Parts

@[expose] public section

noncomputable section

namespace Cert.HaloProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ) (ρ : Dev nD → PrngReg)
variable (K : Dev nD × CI → ℕ) (c : Dev nD)

/-- A program followed by another. -/
theorem wp_seq {α β : Type} {p : Prog (TpuEff nD τ sig (Elt F) Λ₀ .tc) α} {k : α → Prog (TpuEff nD τ sig (Elt F) Λ₀ .tc) β} {Q : β → sProp 𝕄} :
    WP c p (fun a => WP c (k a) Q) ⊢ WP c (p >>= k) Q := Entails.of_eq (wp_bind _ _ _ _ _ _).symm

abbrev prog5 (v92 : FVec F S256x256 .f32) (v102 : IVec S128x384 1) (v113 : FVec F S384x256 .bf16) (v115 : FVec F S128x64 .bf16) (v116 : FVec F S384x64 .bf16) (cst_85 : FVec F S128x384 .f32) : Prog (TpuEff nD τ sig (Elt F) Λ₀ .tc) (Σ' (v124 : FVec F S128x1 .f32) (v125 : FVec F S128x384 .bf16) (v136 : FVec F S128x1 .f32) (v137 : FVec F S128x384 .bf16) (v148 : FVec F S128x1 .f32) (v149 : FVec F S128x384 .bf16) (v160 : FVec F S128x1 .f32), FVec F S128x384 .bf16) :=
  k0_part5 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole main_v1) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    cc0_scratch5 cc0_scratch6 cc0_scratch7 v92 v102 v113 v115 v116 cst_85

/-- Part 5 computes only. -/
theorem part5_wp (v92 : FVec F S256x256 .f32) (v102 : IVec S128x384 1) (v113 : FVec F S384x256 .bf16) (v115 : FVec F S128x64 .bf16) (v116 : FVec F S384x64 .bf16) (cst_85 : FVec F S128x384 .f32) (Q : _ → sProp 𝕄) :
    Q ⟨k0_pay20 v102 v115 v116 cst_85, k0_pay21 v102 v115 v116 cst_85, k0_pay23 v92 v102 v113, k0_pay24 v92 v102 v113, k0_pay26 v92 v102 v113,
        k0_pay27 v92 v102 v113, k0_pay29 v92 v102 v113, k0_pay30 v92 v102 v113⟩
      ⊢ WP c (prog5 v92 v102 v113 v115 v116 cst_85) Q := by
  unfold prog5
  rw [k0_part5_eq_skeleton]; unfold k0_part5_skel
  exact wp_done c

/-! ## What the device starts from and ends with -/

/-- The places in the schedules of the send and receive semaphores; their counters at zero. -/
def atSend (kd b s : Fin 2) : sProp 𝕄 := atPos ER (sendCell c kd b s) 0 ∅ 0
def atRecv (kd b s : Fin 2) : sProp 𝕄 := atPos ER (recvCell c kd b s) 0 ∅ 0
def zSend (kd b s : Fin 2) : sProp 𝕄 := semVal (sendCell c kd b s) 0
def zRecv (kd b s : Fin 2) : sProp 𝕄 := semVal (recvCell c kd b s) 0

/-- What device `c` holds for the protocol: its places, and the tokens of what it pays. -/
def linear : sProp 𝕄 := iprop(atPos ER (barCell c) 0 ∅ 0 ∗ (tokBar (F := F) c 0 ∗ tokBar (F := F) c 1) ∗ (per4 (tokSend (F := F) c) 0 ∗ per4 (tokSend (F := F) c) 1)
  ∗ (dutyTok ER (outCell c 0) 0 (0 : Fin 2) ∗ dutyTok ER (outCell c 1) 0 (0 : Fin 2))
  ∗ (per4 (atSend (F := F) c) 0 ∗ per4 (atSend (F := F) c) 1) ∗ (per4 (atRecv (F := F) c) 0 ∗ per4 (atRecv (F := F) c) 1)
  ∗ (atPos ER (outCell c 0) 0 ∅ 0 ∗ atPos ER (outCell c 1) 0 ∅ 0))

/-- The credits it waits with that others owe. -/
def credits : sProp 𝕄 := iprop(cred (tallyAt (barCell c) () (nNbr c)) ∗ per4 (credIn (F := F) c) 0 ∗ per4 (credIn (F := F) c) 1)

/-- The scratch buffers at whatever contents. -/
def scr : sProp 𝕄 := iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f) ∗ (∃ f, ((c : Thread nD τ).loc cc0_scratch3) ↦{fullShare} f)
    ∗ (∃ f, ((c : Thread nD τ).loc cc0_scratch4) ↦{fullShare} f))

/-- Every semaphore counter at zero. -/
def zeros : sProp 𝕄 := iprop(semVal (barCell c) 0 ∗ (per4 (zSend (F := F) c) 0 ∗ per4 (zSend (F := F) c) 1) ∗ (per4 (zRecv (F := F) c) 0 ∗ per4 (zRecv (F := F) c) 1)
  ∗ (semVal (outCell c 0) 0 ∗ semVal (outCell c 1) 0))

/-- The result array. -/
def resAt (f : S2x128x512.Idx → F .f32) : sProp 𝕄 := ((c : Thread nD τ).loc main_v1) ↦{fullShare} f

/-- The staged operands. -/
def stages : sProp 𝕄 := iprop(stX m c ∗ stWq m c ∗ stK m c ∗ stV m c ∗ stWo m c)

theorem scr_back :
    iprop((per4 (fun kd b s => srcPts m c kd b (shr s)) 0 ∗ per4 (fun kd b s => srcPts m c kd b (shr s)) 1 ∗ keeps m c)
      ∗ (per4 (fun kd b s => dstPts c kd b s (dstC m kd c)) 0 ∗ per4 (fun kd b s => dstPts c kd b s (dstC m kd c)) 1)
      ∗ outPts c 0 (outC m c) ∗ outPts c 1 (outC m c)) ⊢ scr (F := F) c := by
  unfold scr
  iintro ⟨HS, ⟨D0, D1⟩, Ho⟩
  ihave HS := (src_all m c).2 $$ HS
  icases HS with ⟨S0, S1⟩
  ihave Ho := (Entails.of_eq (out_split c (outC m c)).symm) $$ Ho
  unfold per4
  icases D0 with ⟨A0, E0, B0, G0⟩
  icases D1 with ⟨A1, E1, B1, G1⟩
  ihave D2 := (Entails.of_eq (dst_split0 c (halo m 0 c)).symm) $$ [A0 B0 A1 B1]
  · iframe A0 B0 A1 B1
  ihave D3 := (Entails.of_eq (dst_split1 c (halo m 1 c)).symm) $$ [E0 G0 E1 G1]
  · iframe E0 G0 E1 G1
  isplitl [S0]; · iexists _; iexact S0
  isplitl [S1]; · iexists _; iexact S1
  isplitl [D2]; · iexists _; iexact D2
  isplitl [D3]; · iexists _; iexact D3
  iexists _; iexact Ho

theorem anyScr_four : iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f) ∗ (∃ f, ((c : Thread nD τ).loc cc0_scratch3) ↦{fullShare} f)) ⊢ anyScr (F := F) c := .rfl

set_option maxHeartbeats 2000000 in
/-- The body: the operands stay as they are, the result array ends at `outC`, the semaphores at zero, nothing owed. -/
theorem body_run (f : S2x128x512.Idx → F .f32) (Kt : PUnit → sProp 𝕄) :
    iprop(recs m K ∗ levAts L lv ∗ linear (F := F) c ∗ credits (F := F) c ∗ resAt c f ∗ scr (F := F) c ∗ ow c (O₀ c) ∗ stages m c)
      ⊢ iprop(((ow c 0 ∗ resAt c (outC m c) ∗ scr (F := F) c ∗ zeros (F := F) c ∗ stages m c) -∗ Kt ⟨⟩) -∗
          WP c (cc0_body (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole main_v1) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    cc0_scratch5 cc0_scratch6 cc0_scratch7) Kt) := by
  rw [cc0_body_eq_skeleton]; unfold cc0_body_skel
  unfold linear credits resAt scr stages
  iintro ⟨#HR, #Hlev, ⟨Hab, Htb, Hts, ⟨To0, To1⟩, ⟨As0, As1⟩, ⟨Ar0, Ar1⟩, Ao0, Ao1⟩, ⟨Hcb, Hci⟩, Hres, ⟨S0, S1, S2, S3, ⟨%f4, S4⟩⟩, HO, Hx, Hwq, Hk, Hv, Hwo⟩ HQ
  ihave HS := (anyScr_four c) $$ [S0 S1 S2 S3]
  · iframe S0 S1 S2 S3
  ihave Hres := (Entails.of_eq (res_split c f)) $$ Hres
  icases Hres with ⟨R0, R1⟩
  ihave S4 := (Entails.of_eq (out_split c f4)) $$ S4
  icases S4 with ⟨O0, O1⟩
  iapply wp_seq
  iapply (part1_wp m K c _) $$ [HO Htb Hci HS Hk Hv]
  · iframe HR HO Htb Hci HS Hk Hv
  iintro %v3 %v4 %v27 ⟨HO, ⟨C0, C1⟩, H0, H1, Hk, Hv⟩
  iapply wp_seq
  iapply (part2_wp m c v27 _) $$ [H0 H1 Hk Hv]
  · iframe H0 H1 Hk Hv
  iintro ⟨H0, H1, Hk, Hv⟩
  iapply wp_seq
  iapply (part3_wp m K c v3 v4 _) $$ [HO Hcb Hab Hts H0 H1 Hk Hv]
  · iframe HR Hlev HO Hcb Hab Hts H0 H1 Hk Hv
  iintro ⟨HO, T0, ⟨T100, T110, T101⟩, Rdy, Hkeep, Hzb, Hk, Hv⟩
  unfold per4 keeps atRecv
  icases C0 with ⟨C000, C010, C001, C011⟩
  icases C1 with ⟨C100, C110, C101, C111⟩
  icases Ar0 with ⟨A000, A010, A001, A011⟩
  icases Ar1 with ⟨A100, A110, A101, A111⟩
  icases Hkeep with ⟨K00, K10, K01, K11⟩
  iapply wp_seq
  iapply (part4_wp m K c v3 v4 _) $$ [HO Rdy Hx Hwq K00 C000 A000 C100 A100]
  · unfold awaiting
    iframe HR HO Rdy Hx Hwq K00 C000 A000 C100 A100
  iintro ⟨HO, T111, Hx, Hwq, K00, D000, D100⟩
  iapply wp_seq
  iapply (part5_wp c (qAll m c) (msk c) (kc0 m c) (k0_pay17 (rdX m c) (rdWq m c)) (k0_pay18 (rdD m 0 0 0 c) (rdS m 0 0 c) (rdD m 0 0 1 c)) cst0 _)
  iapply wp_seq
  iapply (part6_wp m K c v3 v4 _ _ _ _ _ _ _ _ rfl f4 _) $$ [HO Hwo K10 O0 C010 A010 C110 A110]
  · unfold awaiting
    iframe HR HO Hwo K10 O0 C010 A010 C110 A110
  iintro ⟨HO, Hwo, K10, O0, D010, D110⟩
  iapply wp_seq
  iapply (part7_wp m K c v3 v4 f _) $$ [HO O0 R0 To0 K01 C001 A001 C101 A101]
  · unfold awaiting
    iframe HR HO O0 R0 To0 K01 C001 A001 C101 A101
  iintro ⟨HO, Cr0, K01, D001, D101⟩
  iapply wp_seq
  iapply (part8_wp m K c v3 v4 (qAll m c) (msk c) (kc1 m c) (k0_pay36 (qAll m c)) (k0_pay37 (rdD m 0 1 0 c) (rdS m 0 1 c) (rdD m 0 1 1 c)) cst0 _) $$ [HO C011 A011 C111 A111]
  · unfold awaiting
    iframe HR HO C011 A011 C111 A111
  iintro ⟨HO, D011, D111⟩
  iapply wp_seq
  iapply (part9_wp m K c _ _ _ _ _ _ _ _ _ rfl f4 f _) $$ [Hwo K11 D111 O1 R1 To1]
  · iframe HR Hwo K11 D111 O1 R1 To1
  iintro ⟨Hwo, K11, D111, Cr1⟩
  icases T0 with ⟨T000, T010, T001, T011⟩
  icases As0 with ⟨E000, E010, E001, E011⟩
  icases As1 with ⟨E100, E110, E101, E111⟩
  iapply guard_two
  iapply (sent_step m K c 0 0 (testR c) (N_src 0 0) (N_src 1 0)) $$ [HO T000 E000 T010 E010]
  · unfold atSend
    iframe HR HO T000 E000 T010 E010
  iintro ⟨HO, ⟨T000, E000⟩, T010, E010⟩
  iapply guard_two
  iapply (sent_step m K c 0 1 (testL c) (N_src 0 0) (N_src 1 0)) $$ [HO T100 E100 T110 E110]
  · unfold atSend
    iframe HR HO T100 E100 T110 E110
  iintro ⟨HO, ⟨T100, E100⟩, T110, E110⟩
  iapply guard_two
  iapply (sent_step m K c 1 0 (testR c) (N_src 0 1) (N_src 1 1)) $$ [HO T001 E001 T011 E011]
  · unfold atSend
    iframe HR HO T001 E001 T011 E011
  iintro ⟨HO, ⟨T001, E001⟩, T011, E011⟩
  iapply guard_two
  iapply (sent_step m K c 1 1 (testL c) (N_src 0 1) (N_src 1 1)) $$ [HO T101 E101 T111 E111]
  · unfold atSend
    iframe HR HO T101 E101 T111 E111
  iintro ⟨HO, ⟨T101, E101⟩, T111, E111⟩
  iapply (out_step m K c 0 (NO_res 0)) $$ [HO Cr0 Ao0]
  · iframe HR HO Cr0 Ao0
  iintro ⟨HO, ⟨R0, O0⟩, Ao0⟩
  iapply (out_step m K c 1 (NO_res 1)) $$ [HO Cr1 Ao1]
  · iframe HR HO Cr1 Ao1
  iintro ⟨HO, ⟨R1, O1⟩, Ao1⟩
  iapply wp_done
  iapply HQ
  unfold arrived
  icases D000 with ⟨D000, Z000⟩
  icases D100 with ⟨D100, Z100⟩
  icases D010 with ⟨D010, Z010⟩
  icases D110 with ⟨D110, Z110⟩
  icases D001 with ⟨D001, Z001⟩
  icases D101 with ⟨D101, Z101⟩
  icases D011 with ⟨D011, Z011⟩
  icases D111 with ⟨D111, Z111⟩
  ihave HS := (scr_back m c) $$ [T000 T001 T010 T011 T100 T101 T110 T111 K00 K01 K10 K11 D000 D001 D010 D011 D100 D101 D110 D111 O0 O1]
  · unfold per4 keeps
    iframe T000 T001 T010 T011 T100 T101 T110 T111 K00 K01 K10 K11 D000 D001 D010 D011 D100 D101 D110 D111 O0 O1
  ihave Hres := (Entails.of_eq (res_split c (outC m c)).symm) $$ [R0 R1]
  · iframe R0 R1
  unfold scr zeros per4 zSend zRecv
  iframe HO Hres HS Hzb E000 E001 E010 E011 E100 E101 E110 E111 Z000 Z001 Z010 Z011 Z100 Z101 Z110 Z111 Ao0 Ao1 Hx Hwq Hk Hv Hwo

end Cert.HaloProof

end
-- ==== Proof.Deal.lean ====
/-
  The protocol's records at the start: every semaphore cell of every device is opened, each device keeps its own places
  in the rounds, and the tokens of the duties are dealt to the devices that pay them.
-/
module

public import proofs.«01_k».proof.Proof.Run

@[expose] public section

noncomputable section

namespace Cert.HaloProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ) (ρ : Dev nD → PrngReg)

/-! ## A device's cells, listed -/

omit [FloatOps F] in
theorem all_mono {I : Type} [Fintype I] {Φ Ψ : I → sProp 𝕄} (h : ∀ i, Φ i ⊢ Ψ i) : bigSep Finset.univ Φ ⊢ bigSep Finset.univ Ψ :=
  bigSep_mono fun i _ => h i

omit [FloatOps F] in
theorem all_fupd {I : Type} [Fintype I] {Φ Ψ : I → sProp 𝕄} (h : ∀ i, Φ i ⊢ |={Set.univ}=> Ψ i) :
    bigSep Finset.univ Φ ⊢ |={Set.univ}=> bigSep Finset.univ Ψ :=
  (bigSep_mono fun i _ => h i).trans (bigSep_fupd _ _)

omit [FloatOps F] in
/-- Over all transfers: those to the right, then those to the left. -/
theorem bigSep_T (Ψ : T → sProp 𝕄) :
    bigSep Finset.univ Ψ = iprop(per4 (fun kd b s => Ψ (kd, b, s)) 0 ∗ per4 (fun kd b s => Ψ (kd, b, s)) 1) := by
  rw [bigSep_univ_eq_bigSepL [(0, 0, 0), (1, 0, 0), (0, 1, 0), (1, 1, 0), (0, 0, 1), (1, 0, 1), (0, 1, 1), (1, 1, 1)] (by decide) (by decide) Ψ]
  unfold per4
  refine BI.equiv_iff.mp ⟨?_, ?_⟩
  · show iprop(Ψ (0, 0, 0) ∗ Ψ (1, 0, 0) ∗ Ψ (0, 1, 0) ∗ Ψ (1, 1, 0) ∗ Ψ (0, 0, 1) ∗ Ψ (1, 0, 1) ∗ Ψ (0, 1, 1) ∗ Ψ (1, 1, 1)) ⊢ _
    iintro ⟨A, B, C, D, E, G, H, I⟩
    iframe A B C D E G H I
  · show _ ⊢ iprop(Ψ (0, 0, 0) ∗ Ψ (1, 0, 0) ∗ Ψ (0, 1, 0) ∗ Ψ (1, 1, 0) ∗ Ψ (0, 0, 1) ∗ Ψ (1, 0, 1) ∗ Ψ (0, 1, 1) ∗ Ψ (1, 1, 1))
    iintro ⟨⟨A, B, C, D⟩, E, G, H, I⟩
    iframe A B C D E G H I

omit [FloatOps F] in
theorem bigSep_unit (Ψ : Unit → sProp 𝕄) : bigSep Finset.univ Ψ = Ψ () := bigSep_univ_eq_bigSepL [()] (by decide) (by decide) Ψ

omit [FloatOps F] in
theorem bigSep_either {A B : Type} [Fintype A] [Fintype B] (Ψ : A ⊕ B → sProp 𝕄) :
    bigSep Finset.univ Ψ = iprop((bigSep Finset.univ fun a => Ψ (.inl a)) ∗ bigSep Finset.univ fun b => Ψ (.inr b)) := bigSep_univ_sum Ψ

omit [FloatOps F] in
/-- Over a device's cells: the barrier cell, the send cells, the receive cells, the output cells. -/
theorem bigSep_CI (Ψ : CI → sProp 𝕄) :
    bigSep Finset.univ Ψ = iprop(Ψ iBar ∗ (per4 (fun kd b s => Ψ (iSend kd b s)) 0 ∗ per4 (fun kd b s => Ψ (iSend kd b s)) 1)
      ∗ (per4 (fun kd b s => Ψ (iRecv kd b s)) 0 ∗ per4 (fun kd b s => Ψ (iRecv kd b s)) 1) ∗ (Ψ (iOut 0) ∗ Ψ (iOut 1))) := by
  rw [bigSep_either, bigSep_either, bigSep_either, bigSep_T, bigSep_T, bigSep_fin_two, bigSep_unit]; rfl

/-- The role of a device's cell. -/
def roleCI : CI → Role
  | .inl _ => .bar
  | .inr (.inl t) => .send t.1 t.2.1 t.2.2
  | .inr (.inr (.inl t)) => .recv t.1 t.2.1 t.2.2
  | .inr (.inr (.inr b)) => .out b
theorem role_kcell (c : Dev nD) (k : CI) : role (kcell (c, k)).2 = roleCI k := by
  rcases k with _ | t | t | b
  · exact role_bar
  · exact role_send _ _ _
  · exact role_recv _ _ _
  · exact role_out _
theorem dev_kcell (c : Dev nD) (k : CI) : (kcell (c, k)).1.1 = c := by rcases k with _ | t | t | b <;> rfl
theorem roleCI_injective : Function.Injective roleCI := by
  intro k k' h
  rcases k with _ | ⟨a, b, s⟩ | ⟨a, b, s⟩ | b <;> rcases k' with _ | ⟨a', b', s'⟩ | ⟨a', b', s'⟩ | b' <;>
    simp only [roleCI, reduceCtorEq, Role.send.injEq, Role.recv.injEq, Role.out.injEq] at h ⊢ <;> simp_all
theorem kcell_injective : Function.Injective kcell := by
  rintro ⟨c, k⟩ ⟨c', k'⟩ h
  have h1 : c = c' := by rw [← dev_kcell c k, h, dev_kcell]
  have h2 : k = k' := roleCI_injective (by rw [← role_kcell c k, h, role_kcell])
  rw [h1, h2]

/-- Every cell, and every token that is made: two for each cell. -/
def allCells : Finset (GSem nD τ sig) := Finset.univ.map ⟨kcell, kcell_injective⟩
def tokAt (p : (Dev nD × CI) × Fin 2) : GSem nD τ sig × ℕ × Fin 2 := (kcell p.1, 0, p.2)
theorem tokAt_injective : Function.Injective tokAt := by
  rintro ⟨p, d⟩ ⟨p', d'⟩ h
  have h1 : p = p' := kcell_injective (congrArg (fun x : GSem nD τ sig × ℕ × Fin 2 => x.1) h)
  have h2 : d = d' := congrArg (fun x : GSem nD τ sig × ℕ × Fin 2 => x.2.2) h
  rw [h1, h2]
def allToks : Finset (GSem nD τ sig × ℕ × Fin 2) := Finset.univ.map ⟨tokAt, tokAt_injective⟩

def u₀ : UU := (initOf (Pipeline.cells cfgs cellOf_inj) (Pipeline.launchToks cfgs cellOf_inj), initOf allCells allToks)

/-- A device's tokens as made. -/
def made (c : Dev nD) : sProp 𝕄 := bigSep Finset.univ fun k : CI => bigSep Finset.univ fun d : Fin 2 => dutyTok ER (kcell (c, k)) 0 d

/-- What device `c` is given at first: for each of its cells its state, its place and that its first round is open; its
    tokens. -/
def given (c : Dev nD) : sProp 𝕄 :=
  iprop((bigSep Finset.univ fun k : CI => iprop(roundState ER (Rd m) (kcell (c, k)) 0 ∗ atPos ER (kcell (c, k)) 0 ∅ 0 ∗ reached ER (kcell (c, k)) 0))
    ∗ made (F := F) c)

theorem fund_all : BI.own (ER (initOf allCells allToks)) ⊢ (|==> bigSep Finset.univ (given m) : sProp 𝕄) := by
  have hX (Φ : GSem nD τ sig → sProp 𝕄) : bigSep allCells Φ = bigSep Finset.univ fun c : Dev nD => bigSep Finset.univ fun k : CI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => made c := by
    unfold allToks made; rw [bigSep_map, bigSep_univ_prod, bigSep_univ_prod]; rfl
  iintro HX
  imod (Rounds.fund ER (Rd m) allCells allToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold given; simp only [bigSep_sep']
  iframe Hst Hat Hr Htok

/-! ## The kernel's semaphores -/

/-- The kernel's own semaphores. -/
def own : T ⊕ T ⊕ Fin 2 → SemLoc sig
  | .inl t => .dma (sendS t.1 t.2.1 t.2.2)
  | .inr (.inl t) => .dma (recvS t.1 t.2.1 t.2.2)
  | .inr (.inr b) => .dma (outS b)

omit [FloatOps F] in
/-- The barrier semaphore is the one that outlives the kernel. -/
theorem unscoped_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem own_eq (c : Dev nD) : (Pipeline.ownSems0 (Ix := Unit) (Name := ℕ) (U := UU) (Lvl := ℕ) (Val := Elt F) (τ := τ) own c : sProp 𝕄)
    = bigSep Finset.univ fun k : T ⊕ T ⊕ Fin 2 => semVal (kcell (c, .inr k)) 0 := by
  unfold Pipeline.ownSems0
  exact bigSep_congr fun k _ => by rcases k with t | t | b <;> rfl

omit [FloatOps F] in
theorem sems_eq (c : Dev nD) :
    (bigSep Finset.univ fun k : CI => (semVal (kcell (c, k)) 0 : sProp 𝕄))
      = iprop(unscopedSems0 c ∗ Pipeline.ownSems0 (Ix := Unit) (Name := ℕ) (U := UU) (Lvl := ℕ) (Val := Elt F) (τ := τ) own c) := by
  rw [bigSep_either, bigSep_unit, own_eq, unscoped_eq]; rfl

omit [FloatOps F] in
theorem zeros_eq (c : Dev nD) : zeros (F := F) c = bigSep Finset.univ fun k : CI => (semVal (kcell (c, k)) 0 : sProp 𝕄) := by
  rw [bigSep_CI]; rfl

/-- Opening one cell. -/
theorem open_cell (p : Dev nD × CI) :
    iprop(semVal (kcell p) 0 ∗ roundState ER (Rd m) (kcell p) 0 ∗ atPos ER (kcell p) 0 ∅ 0 ∗ reached ER (kcell p) 0)
      ⊢ |={Set.univ}=> iprop((∃ κ : ℕ, cellInv ER (Rd m) κ (kcell p) ∗ reached ER (kcell p) 0) ∗ atPos ER (kcell p) 0 ∅ 0) := by
  iintro ⟨Hv, Hs, Ha, Hr⟩
  imod ((Rounds.body_intro ER (Rd m) (kcell p)).trans inv_alloc) $$ [Hv Hs] with ⟨%κ, HI⟩
  · iframe Hv Hs
  imodintro
  iframe Ha
  iexists κ
  iframe Hr
  iexact HI

/-- Opening a device's cells. -/
theorem open_device (c : Dev nD) :
    iprop(Pipeline.ownSems0 (Ix := Unit) (Name := ℕ) (U := UU) (Lvl := ℕ) (Val := Elt F) (τ := τ) own c ∗ unscopedSems0 c ∗ given m c)
      ⊢ |={Set.univ}=> iprop((bigSep Finset.univ fun k : CI =>
          iprop((∃ κ : ℕ, cellInv ER (Rd m) κ (kcell (c, k)) ∗ reached ER (kcell (c, k)) 0) ∗ atPos ER (kcell (c, k)) 0 ∅ 0)) ∗ made (F := F) c) := by
  unfold given
  iintro ⟨Ho, Hu, Hg, Hm⟩
  ihave Hv := (Entails.of_eq (sems_eq (F := F) c).symm) $$ [Ho Hu]
  · iframe Hu Ho
  ihave H := (Entails.of_eq (bigSep_sep' Finset.univ (fun k : CI => (semVal (kcell (c, k)) 0 : sProp 𝕄))
    (fun k => iprop(roundState ER (Rd m) (kcell (c, k)) 0 ∗ atPos ER (kcell (c, k)) 0 ∅ 0 ∗ reached ER (kcell (c, k)) 0))).symm) $$ [Hv Hg]
  · iframe Hv Hg
  imod (all_fupd fun k => open_cell m (c, k)) $$ H with H
  imodintro
  iframe H Hm

/-! ## Dealing the tokens -/

/-- A device's tokens, those nobody uses dropped. -/
theorem made_used (c : Dev nD) :
    made (F := F) c ⊢ iprop((dutyTok ER (barCell c) 0 (0 : Fin 2) ∗ dutyTok ER (barCell c) 0 (1 : Fin 2))
      ∗ (bigSep Finset.univ fun t : T => dutyTok ER (sendCell c t.1 t.2.1 t.2.2) 0 (0 : Fin 2))
      ∗ (bigSep Finset.univ fun t : T => dutyTok ER (recvCell c t.1 t.2.1 t.2.2) 0 (0 : Fin 2))
      ∗ (dutyTok ER (outCell c 0) 0 (0 : Fin 2) ∗ dutyTok ER (outCell c 1) 0 (0 : Fin 2))) := by
  have first {k : CI} : (bigSep Finset.univ fun d : Fin 2 => (dutyTok ER (kcell (c, k)) 0 d : sProp 𝕄)) ⊢ dutyTok ER (kcell (c, k)) 0 0 :=
    bigSep_elim (Finset.mem_univ 0)
  unfold made
  rw [bigSep_either, bigSep_either, bigSep_either, bigSep_unit]
  iintro ⟨HB, HS, HR, HO⟩
  isplitl [HB]
  · iapply (Entails.of_eq (show (bigSep Finset.univ fun d : Fin 2 => (dutyTok ER (kcell (c, .inl ())) 0 d : sProp 𝕄))
      = iprop(dutyTok ER (barCell c) 0 (0 : Fin 2) ∗ dutyTok ER (barCell c) 0 (1 : Fin 2)) from bigSep_fin_two _)) $$ HB
  isplitl [HS]
  · iapply (all_mono fun t => first (k := .inr (.inl t))) $$ HS
  isplitl [HR]
  · iapply (all_mono fun t => first (k := .inr (.inr (.inl t)))) $$ HR
  · iapply ((all_mono fun b => first (k := .inr (.inr (.inr b)))).trans
      (Entails.of_eq (show (bigSep Finset.univ fun b : Fin 2 => (dutyTok ER (outCell c b) 0 (0 : Fin 2) : sProp 𝕄))
        = iprop(dutyTok ER (outCell c 0) 0 (0 : Fin 2) ∗ dutyTok ER (outCell c 1) 0 (0 : Fin 2)) from bigSep_fin_two _))) $$ HO

/-- The tokens of what device `c` pays. -/
def pays (c : Dev nD) : sProp 𝕄 :=
  iprop((tokBar (F := F) c 0 ∗ tokBar (F := F) c 1) ∗ (per4 (tokSend (F := F) c) 0 ∗ per4 (tokSend (F := F) c) 1)
    ∗ (dutyTok ER (outCell c 0) 0 (0 : Fin 2) ∗ dutyTok ER (outCell c 1) 0 (0 : Fin 2)))

/-- A device and a transfer, the device replaced by the one the transfer goes to. -/
def goesTo : Dev nD × T ≃ Dev nD × T :=
  ⟨fun p => (nbr p.2.2.2 p.1, p.2), fun p => (nbr (opp p.2.2.2) p.1, p.2), fun p => Prod.ext (nbr_opp _ _) rfl, fun p => Prod.ext (nbr_nbr_opp _ _) rfl⟩

omit [FloatOps F] in
theorem when_intro (p : Bool) (P : sProp 𝕄) : P ⊢ when p P := by
  by_cases h : p = true
  · rw [when_true h]
  · rw [when_false h]; exact BI.Affine.affine

omit [FloatOps F] in
/-- The barrier tokens of one side, dealt to the neighbours. -/
theorem deal_bar (s d : Fin 2) (h : d = opp s) :
    (bigSep Finset.univ fun c : Dev nD => (dutyTok ER (barCell c) 0 d : sProp 𝕄)) ⊢ bigSep Finset.univ fun c : Dev nD => tokBar (F := F) c s := by
  rw [h, bigSep_univ_equiv (nbrEquiv s)]
  exact all_mono fun c => when_intro _ _

omit [FloatOps F] in
theorem send_tok (p : Dev nD × T) :
    iprop(dutyTok ER (sendCell p.1 p.2.1 p.2.2.1 p.2.2.2) 0 (0 : Fin 2) ∗ dutyTok ER (recvCell (goesTo p).1 (goesTo p).2.1 (goesTo p).2.2.1 (goesTo p).2.2.2) 0 (0 : Fin 2))
      ⊢ tokSend (F := F) p.1 p.2.1 p.2.2.1 p.2.2.2 := when_intro _ _

omit [FloatOps F] in
/-- The transfers' tokens: a device keeps those of its send cells, the receive cells' go to the device that writes. -/
theorem deal_send :
    iprop((bigSep Finset.univ fun c : Dev nD => bigSep Finset.univ fun t : T => (dutyTok ER (sendCell c t.1 t.2.1 t.2.2) 0 (0 : Fin 2) : sProp 𝕄))
      ∗ (bigSep Finset.univ fun c : Dev nD => bigSep Finset.univ fun t : T => (dutyTok ER (recvCell c t.1 t.2.1 t.2.2) 0 (0 : Fin 2) : sProp 𝕄)))
      ⊢ bigSep Finset.univ fun c : Dev nD => iprop(per4 (tokSend (F := F) c) 0 ∗ per4 (tokSend (F := F) c) 1) := by
  rw [← bigSep_univ_prod (fun p : Dev nD × T => (dutyTok ER (sendCell p.1 p.2.1 p.2.2.1 p.2.2.2) 0 (0 : Fin 2) : sProp 𝕄)),
    ← bigSep_univ_prod (fun p : Dev nD × T => (dutyTok ER (recvCell p.1 p.2.1 p.2.2.1 p.2.2.2) 0 (0 : Fin 2) : sProp 𝕄)),
    bigSep_univ_equiv goesTo (fun p : Dev nD × T => (dutyTok ER (recvCell p.1 p.2.1 p.2.2.1 p.2.2.2) 0 (0 : Fin 2) : sProp 𝕄)),
    ← bigSep_sep']
  refine (all_mono fun p => send_tok p).trans ?_
  rw [bigSep_univ_prod]
  refine all_mono fun c => ?_
  rw [bigSep_T]

theorem deal_all : (bigSep Finset.univ fun c : Dev nD => made (F := F) c) ⊢ bigSep Finset.univ fun c : Dev nD => pays (F := F) c := by
  refine (all_mono fun c => made_used c).trans ?_
  unfold pays
  simp only [bigSep_sep']
  iintro ⟨⟨B0, B1⟩, HS, HR, O0, O1⟩
  isplitl [B0 B1]
  · isplitl [B1]
    · iapply (deal_bar (F := F) 0 1 rfl) $$ B1
    · iapply (deal_bar (F := F) 1 0 rfl) $$ B0
  isplitl [HS HR]
  · iapply ((deal_send (F := F)).trans (Entails.of_eq (bigSep_sep' _ _ _))) $$ [HS HR]
    iframe HS HR
  iframe O0 O1

/-! ## What each device starts with -/

/-- Some names of the cells' invariants with what everybody knows of them, and what device `c` holds of the protocol. -/
def ghost (c : Dev nD) : sProp 𝕄 := iprop(∃ K, recs m K ∗ linear (F := F) c)

omit [FloatOps F] in
theorem linear_intro (c : Dev nD) :
    iprop((bigSep Finset.univ fun k : CI => (atPos ER (kcell (c, k)) 0 ∅ 0 : sProp 𝕄)) ∗ pays (F := F) c) ⊢ linear (F := F) c := by
  rw [bigSep_CI]
  unfold pays linear
  iintro ⟨⟨HB, HS, HR, HO⟩, T1, T2, T3⟩
  iframe T1 T2 T3
  isplitl [HB]; · iexact HB
  isplitl [HS]; · iexact HS
  isplitl [HR]; · iexact HR
  iexact HO

theorem ghost_intro (K : Dev nD × CI → ℕ) (c : Dev nD) : iprop(recs m K ∗ linear (F := F) c) ⊢ ghost m c := by
  unfold ghost
  iintro H
  iexists K
  iexact H

theorem regroup :
    (bigSep Finset.univ fun c : Dev nD => iprop((bigSep Finset.univ fun k : CI =>
          iprop((∃ κ : ℕ, cellInv ER (Rd m) κ (kcell (c, k)) ∗ reached ER (kcell (c, k)) 0) ∗ atPos ER (kcell (c, k)) 0 ∅ 0)) ∗ made (F := F) c))
      ⊢ bigSep Finset.univ (ghost m) := by
  simp only [bigSep_sep']
  rw [← bigSep_univ_prod (fun p : Dev nD × CI => iprop(∃ κ : ℕ, cellInv ER (Rd m) κ (kcell p) ∗ reached ER (kcell p) 0))]
  iintro ⟨⟨HI, Hat⟩, Hm⟩
  ihave HK := (BI.bigSep_exists_pi Finset.univ (fun (p : Dev nD × CI) (κ : ℕ) => iprop(cellInv ER (Rd m) κ (kcell p) ∗ reached ER (kcell p) 0))) $$ HI
  icases HK with ⟨%K, #HI⟩
  ihave Hp := (deal_all (F := F)) $$ Hm
  ihave Hl := ((Entails.of_eq (bigSep_sep' Finset.univ (fun c : Dev nD => bigSep Finset.univ fun k : CI => (atPos ER (kcell (c, k)) 0 ∅ 0 : sProp 𝕄)) (fun c => pays (F := F) c)).symm).trans
      (all_mono fun c => linear_intro c)) $$ [Hat Hp]
  · iframe Hat Hp
  ihave HR := (BI.bigSep_of_persistent (Finset.univ : Finset (Dev nD)) (recs m K)) $$ [HI]
  · unfold recs; iexact HI
  ihave H := (Entails.of_eq (bigSep_sep' Finset.univ (fun _ : Dev nD => recs m K) (fun c => linear (F := F) c)).symm) $$ [HR Hl]
  · iframe HR Hl
  iapply (all_mono fun (c : Dev nD) => ghost_intro m K c) $$ H

theorem glob : (bigSep Finset.univ fun c => iprop(Pipeline.ownSems0 (Ix := Unit) (Name := ℕ) (U := UU) (Lvl := ℕ) (Val := Elt F) (τ := τ) own c ∗ unscopedSems0 c ∗ given m c) : sProp 𝕄)
    ⊢ |={Set.univ}=> bigSep Finset.univ (ghost m) :=
  (all_fupd fun c => open_device m c).trans (BI.fupd_mono (regroup m))

/-! ## The credits -/

omit [FloatOps F] in
theorem due_at (d : Dev nD) (t' : T) (c : Dev nD) (t : T) :
    due d t' (recvCell c t.1 t.2.1 t.2.2) () = if t' = t ∧ has t.2.2 d = true ∧ nbr t.2.2 d = c then N else 0 := by
  unfold due
  have hc : ∀ t' : T, recvCell (nbr t'.2.2 d) t'.1 t'.2.1 t'.2.2 = kcell (nbr t'.2.2 d, .inr (.inr (.inl t'))) := fun _ => rfl
  by_cases h : has t'.2.2 d = true
  · rw [if_pos h, hc, show recvCell c t.1 t.2.1 t.2.2 = kcell (c, .inr (.inr (.inl t))) from rfl, tallyAt_apply]
    refine if_congr ?_ rfl rfl
    constructor
    · rintro ⟨e, -⟩
      have e := kcell_injective e
      obtain rfl : c = nbr t'.2.2 d := congrArg Prod.fst e
      have e : t = t' := by
        have e := congrArg Prod.snd e
        exact Sum.inl.inj (Sum.inr.inj (Sum.inr.inj e))
      subst e
      exact ⟨rfl, h, rfl⟩
    · rintro ⟨rfl, -, rfl⟩; exact ⟨rfl, rfl⟩
  · rw [if_neg h, if_neg]; · rfl
    rintro ⟨rfl, h', -⟩; exact h h'

omit [FloatOps F] in
theorem owe_at (d c : Dev nD) (t : T) : ∀ l : List T, l.Nodup →
    owe d l (recvCell c t.1 t.2.1 t.2.2) () = if t ∈ l ∧ has t.2.2 d = true ∧ nbr t.2.2 d = c then N else 0
  | [], _ => by rw [if_neg (fun h => List.not_mem_nil h.1)]; rfl
  | t' :: l, hl => by
    obtain ⟨hn, hl⟩ := List.nodup_cons.mp hl
    show owe d l (recvCell c t.1 t.2.1 t.2.2) () + due d t' (recvCell c t.1 t.2.1 t.2.2) () = _
    rw [owe_at d c t l hl, due_at]
    by_cases e : t' = t
    · subst e
      rw [if_neg (fun h => hn h.1), Nat.zero_add]
      exact if_congr (by simp) rfl rfl
    · rw [if_neg (c := t' = t ∧ _) (fun h => e h.1), Nat.add_zero]
      exact if_congr (by simp [Ne.symm e]) rfl rfl

omit [FloatOps F] in
theorem recv_ne_bar (c c' : Dev nD) (t : T) : recvCell c t.1 t.2.1 t.2.2 ≠ barCell c' := fun h => by
  have := congrArg (fun g : GSem nD τ sig => role g.2) h
  simp only [role_recv, role_bar, reduceCtorEq] at this

omit [FloatOps F] in
theorem dueBar_recv (d c : Dev nD) (s : Fin 2) (t : T) : dueBar d s (recvCell c t.1 t.2.1 t.2.2) () = 0 := by
  unfold dueBar
  by_cases h : has s d = true
  · rw [if_pos h, tallyAt_ne_cell (recv_ne_bar _ _ _)]; rfl
  · rw [if_neg h]; rfl

omit [FloatOps F] in
theorem owe_bar (d c : Dev nD) : ∀ l : List T, owe d l (barCell c) () = 0
  | [] => rfl
  | t :: l => by
    show owe d l (barCell c) () + due d t (barCell c) () = 0
    rw [owe_bar d c l]
    unfold due
    by_cases h : has t.2.2 d = true
    · rw [if_pos h, tallyAt_ne_cell (recv_ne_bar _ _ _).symm]; rfl
    · rw [if_neg h]; rfl

omit [FloatOps F] in
theorem dueBar_bar (d c : Dev nD) (s : Fin 2) : dueBar d s (barCell c) () = if has s d = true ∧ nbr s d = c then 1 else 0 := by
  unfold dueBar
  by_cases h : has s d = true
  · rw [if_pos h, tallyAt_apply]
    refine if_congr ⟨fun e => ⟨h, (congrArg (fun g : GSem nD τ sig => g.1.1) e.1).symm⟩, fun e => ⟨by rw [e.2], rfl⟩⟩ rfl rfl
  · rw [if_neg h, if_neg (fun e => h e.1)]; rfl

omit [FloatOps F] in
/-- All that is owed to a receive cell: one block, when there is a neighbour to send it. -/
theorem owed_recv (c : Dev nD) (t : T) :
    ∑ d : Dev nD, O₀ d (recvCell c t.1 t.2.1 t.2.2) () = if has (opp t.2.2) c = true then N else 0 := by
  have h : ∀ d : Dev nD, O₀ d (recvCell c t.1 t.2.1 t.2.2) () = if has t.2.2 d = true ∧ nbr t.2.2 d = c then N else 0 := fun d => by
    unfold O₀
    show owe d order (recvCell c t.1 t.2.1 t.2.2) () + dueBar d 0 (recvCell c t.1 t.2.1 t.2.2) () + dueBar d 1 (recvCell c t.1 t.2.1 t.2.2) () = _
    rw [owe_at d c t order (by decide), dueBar_recv, dueBar_recv]
    exact if_congr (and_iff_right (by revert t; decide)) rfl rfl
  rw [Finset.sum_congr rfl fun d _ => h d, ← Finset.sum_filter, Finset.sum_const, smul_eq_mul]
  have hc : (Finset.univ.filter fun d : Dev nD => has t.2.2 d = true ∧ nbr t.2.2 d = c).card = if has (opp t.2.2) c = true then 1 else 0 := by
    clear h; generalize t.2.2 = s; revert s c; decide
  rw [hc]
  by_cases hh : has (opp t.2.2) c = true
  · rw [if_pos hh, if_pos hh, Nat.one_mul]
  · rw [if_neg hh, if_neg hh, Nat.zero_mul]

omit [FloatOps F] in
/-- All that is owed to a barrier cell: a unit from each neighbour. -/
theorem owed_bar (c : Dev nD) : ∑ d : Dev nD, O₀ d (barCell c) () = nNbr c := by
  have h : ∀ d : Dev nD, O₀ d (barCell c) () = (if has 0 d = true ∧ nbr 0 d = c then 1 else 0) + (if has 1 d = true ∧ nbr 1 d = c then 1 else 0) := fun d => by
    unfold O₀
    show owe d order (barCell c) () + dueBar d 0 (barCell c) () + dueBar d 1 (barCell c) () = _
    rw [owe_bar, dueBar_bar, dueBar_bar, Nat.zero_add]
  rw [Finset.sum_congr rfl fun d _ => h d]
  clear h; revert c; decide

omit [FloatOps F] in
theorem launch_at (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

omit [FloatOps F] in
theorem recvS_injective : Function.Injective fun t : T => (SemLoc.dma (recvS t.1 t.2.1 t.2.2) : SemLoc sig) := fun t t' h => by
  have h := congrArg role h
  simp only [role_recv, Role.recv.injEq] at h
  exact Prod.ext h.1 (Prod.ext h.2.1 h.2.2)

omit [FloatOps F] in
theorem credIn_intro (c : Dev nD) (t : T) :
    (cred (tallyOn (recvCell c t.1 t.2.1 t.2.2) (launchCredit (Pipeline.owing O₀) 0 (recvCell c t.1 t.2.1 t.2.2))) : sProp 𝕄)
      ⊢ credIn (F := F) c t.1 t.2.1 t.2.2 := by
  unfold credIn
  by_cases h : has (opp t.2.2) c = true
  · rw [when_true h, launch_at _ N (by rw [owed_recv, if_pos h])]
  · rw [when_false h]; exact BI.Affine.affine

omit [FloatOps F] in
/-- The credits device `c` waits with, from what the others owe it. -/
theorem credits_intro (c : Dev nD) : (Pipeline.launchCred O₀ c : sProp 𝕄) ⊢ credits (F := F) c := by
  unfold Pipeline.launchCred credits
  rw [bigSep_univ_at _ (SemLoc.reg barS), launch_at _ _ (owed_bar c)]
  refine sep_mono_right ?_
  refine (bigSep_subset (t := Finset.univ.map ⟨_, recvS_injective⟩) ?_).trans ?_
  · intro x hx
    obtain ⟨t, -, rfl⟩ := Finset.mem_map.mp hx
    exact Finset.mem_erase.mpr ⟨(fun h => recv_ne_bar c c t (congrArg (Prod.mk (c : Thread nD τ)) h)), Finset.mem_univ _⟩
  · rw [bigSep_map]
    refine (all_mono fun t => credIn_intro c t).trans ?_
    rw [bigSep_T]

end Cert.HaloProof

end
-- ==== Proof.Launch.lean ====
/-
  The launch: the kernel's body put under the library's launch of one region, from any memory with zero counters, and
  what every final state holds.
-/
module

public import proofs.«01_k».proof.Proof.Deal
public import proofs.«01_k».proof.Proof.Gen.KernelIdeal.Points
public import Idealize.ShloMosaic.Lib.Pipeline.CollectiveSegs
public import Idealize.ShloMosaic.Lib.Quiescent

@[expose] public section

noncomputable section

namespace Cert.HaloProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]
local notation "𝕄" => MT nD τ sig Unit (Elt F) ℕ UU ℕ
variable (m : (ℓ : Loc nD τ sig) → Buf (Elt F) ℓ) (ρ : Dev nD → PrngReg)

/-! ## What the region holds, before and after its one point -/

/-- What device `c` starts from: its records and tokens, its credits, the levels, the result array as it was. -/
def start (c : Dev nD) : sProp 𝕄 := iprop(ghost m c ∗ credits (F := F) c ∗ levAts L lv ∗ resAt c (m ((c : Thread nD τ).loc main_v1)))

def before (c : Dev nD) : sProp 𝕄 := iprop(start m c ∗ scr (F := F) c)
def afterwards (c : Dev nD) : sProp 𝕄 := iprop(resAt c (outC m c) ∗ scr (F := F) c ∗ zeros (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xst m c
    | ⟨1, _⟩ => wqst m c
    | ⟨2, _⟩ => kst m c
    | ⟨3, _⟩ => vst m c
    | ⟨4, _⟩ => wost m c
  Φ t := match t with
    | ⟨0, _⟩ => before m c
    | ⟨_ + 1, _⟩ => afterwards m c
  q _ := fullShare
  owed t := match t with
    | ⟨0, _⟩ => O₀ c
    | ⟨_ + 1, _⟩ => 0

omit [FloatOps F] in
theorem bigSep_W (Ψ : Fin cfg0.W → sProp 𝕄) : bigSep Finset.univ Ψ = iprop(Ψ (0 : Fin 5) ∗ Ψ (1 : Fin 5) ∗ Ψ (2 : Fin 5) ∗ Ψ (3 : Fin 5) ∗ Ψ (4 : Fin 5)) := bigSep_W0 Ψ

/-- A staging buffer at contents equal to `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
/-- What the body is handed, and what it hands back. -/
def pre (c : Dev nD) : sProp 𝕄 :=
  iprop(before m c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))
def post (c : Dev nD) : sProp 𝕄 :=
  iprop(afterwards m c ∗ (dats m ρ 0 c).owesAt () t0_0.succ
    ∗ stg c cc0_stg0_0 (xst m c) ∗ stg c cc0_stg1_0 (wqst m c) ∗ stg c cc0_stg2_0 (kst m c) ∗ stg c cc0_stg3_0 (vst m c) ∗ stg c cc0_stg4_0 (wost m c))

set_option maxHeartbeats 1000000 in
set_option maxRecDepth 4000 in
/-- The library's body obligation on device `c`. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  show pre m ρ c ⊢ WP c (bodyAt0 t0_0) (fun _ => post m ρ c)
  unfold pre before start ghost
  iintro ⟨⟨⟨⟨%K, HR, Hl⟩, Hc, HL, Hres⟩, Hscr⟩, Ho, ⟨%d0, %f0, %e0, H0⟩, ⟨%d1, %f1, %e1, H1⟩, ⟨%d2, %f2, %e2, H2⟩, ⟨%d3, %f3, %e3, H3⟩, ⟨%d4, %f4, %e4, H4⟩⟩
  obtain rfl : f0 = xst m c := e0.trans (by unfold Dat.before; rw [if_pos (fetch0_0 t0_0)]; rfl)
  obtain rfl : f1 = wqst m c := e1.trans (by unfold Dat.before; rw [if_pos (fetch0_1 t0_0)]; rfl)
  obtain rfl : f2 = kst m c := e2.trans (by unfold Dat.before; rw [if_pos (fetch0_2 t0_0)]; rfl)
  obtain rfl : f3 = vst m c := e3.trans (by unfold Dat.before; rw [if_pos (fetch0_3 t0_0)]; rfl)
  obtain rfl : f4 = wost m c := e4.trans (by unfold Dat.before; rw [if_pos (fetch0_4 t0_0)]; rfl)
  unfold Dat.owesAt Pipeline.owesWithin
  rw [show (dats m ρ 0 c).owed t0_0.castSucc = O₀ c from rfl]
  icases Ho with ⟨%W, -, Ho⟩
  iapply (body_run m K c (m ((c : Thread nD τ).loc main_v1)) fun _ => post m ρ c) $$ [HR HL Hl Hc Hres Hscr Ho H0 H1 H2 H3 H4]
  · iframe HR HL Hl Hc Hres Hscr
    unfold ow stages stX stWq stK stV stWo
    iframe H0 H1 H2 H3 H4
    iexists W; iexact Ho
  unfold ow stages stX stWq stK stV stWo post afterwards
  iintro ⟨⟨%W', Ho⟩, Hres, Hscr, Hz, H0, H1, H2, H3, H4⟩
  iframe Hres Hscr Hz
  isplitl [Ho]
  · unfold Dat.owesAt Pipeline.owesWithin
    rw [show (dats m ρ 0 c).owed t0_0.succ = 0 from rfl]
    iexists W'
    isplitr; · ipureintro; exact fun _ _ => Or.inl trivial
    iexact Ho
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  isplitl [H3]; · iexists _; isplitr; · (ipureintro; rfl)
                  iexact H3
  iexists _; isplitr; · (ipureintro; rfl)
  iexact H4

/-! ## The side conditions of the launch -/

theorem ownFacts : Pipeline.OwnSemFacts cfg0.spec own := by decide

theorem share_full (c : Dev nD) (w : Fin cfg0.W) : (dats m ρ 0 c).share w = fullShare := by unfold Dat.share; split <;> rfl

theorem enter (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m c)
      ⊢ |={Set.univ}=> iprop(start m c ∗ emp) := by
  rw [Pipeline.unscopedRestP_none, unscopedRest0_eq]
  iintro ⟨Hres, Hlev, Hcr, -, HG⟩
  ihave Hc := (credits_intro (F := F) c) $$ Hcr
  imodintro
  unfold start resAt
  isplitl
  · iframe HG Hc Hlev Hres
  · iempintro

theorem first (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m c from rfl, scopedRest0_eq]
  unfold before scr
  iintro ⟨Hs, -, Hr⟩
  iframe Hs Hr

/-- What a device still holds at the end: its barrier counter, its result. -/
def left (c : Dev nD) : sProp 𝕄 := iprop(unscopedSems0 c ∗ resAt c (outC m c))

theorem last (c : Dev nD) :
    (dats m ρ 0 c).Φ (Fin.last cfg0.N) ⊢ iprop(left m c ∗ Pipeline.ownSems0 own c ∗ Pipeline.scopedRest cfg0.spec c) := by
  rw [show (dats m ρ 0 c).Φ (Fin.last cfg0.N) = afterwards m c from rfl, scopedRest0_eq]
  unfold afterwards scr left
  rw [zeros_eq, sems_eq]
  iintro ⟨Hres, Hr, Hu, Ho⟩
  iframe Hu Hres Ho Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What is read off the final memory: the result, and the counters that outlive the kernel. -/
def Reads (c : Dev nD) (s : MemSt nD τ sig (Elt F)) : Prop :=
  s.mem ((c : Thread nD τ).loc main_v1) = outC m c ∧ ∀ sm : SemLoc sig, sm.isScoped .tc = false → s.sem ((c.tc : Thread nD τ), sm) = 0

theorem reading (c : Dev nD) (s' : Phys nD τ sig (Elt F)) : iprop(left m c ∗ iprop(emp) ∗ SI s') ⊢ |={Set.univ}=> iprop(⌜Reads m c s'.mem⌝ ∗ SI s') := by
  unfold left resAt
  iintro ⟨⟨Hu, Hres⟩, -, HSI⟩
  icombine HSI Hres gives %h
  imod (Pipeline.unscopedSems0_read (X := unscopedSems0 c) (c := c) fupd_intro s') $$ [Hu HSI] with ⟨%h1, HSI⟩
  · iframe Hu HSI
  imodintro
  iframe HSI
  ipureintro
  exact ⟨Buf.eq_of_forall_mem_univ h, h1⟩

/-! ## The run -/

/-- The final memory of every device: the result as computed, the operands as they were. -/
def Ends (s : MemSt nD τ sig (Elt F)) : Prop := ∀ c : Dev nD,
  s.mem ((c : Thread nD τ).loc main_v1) = outC m c
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)

set_option maxRecDepth 8000 in
/-- On the row of sixteen devices, for any float values, from any memory with zero counters: every weakly fair execution
    ends, every final state has each device's result as `outC` computes it, the operands unchanged, and every semaphore
    counter at zero. -/
theorem run_main : θ_run defs (onTc (τ := τ) (main (F := F))) (s₀ m ρ) (fun r => Ends m r.2 ∧ r.2.sem = fun _ => 0) :=
  Pipeline.θ_run_region_owing_glob_pf (fun p => (cfgs p).toPCfg) (fun p => (cfgs p).toPCfg_adm) (dats m ρ) () cellOf_inj (0 : Fin 1)
    winFacts0.to₀ ownFacts (Pipeline.PreFacts.none _) EP defs₀ 𝒱₀ m ρ main
    (hmain := fun _ => rfl)
    (hbody := fun c => (body_obligation m ρ c).loose) (hne := block_pos0) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := waits m ρ)
    (G := given m) (G' := ghost m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := left m) (Z := fun _ => iprop(emp))
    (hX := enter m ρ) (hin := first m ρ) (hout := last m ρ)
    (QY := Reads m)
    (hY := reading m)
    (hQ := fun _ h hs => ⟨fun c => ⟨(h c).2.2.1,
        ((h c).1 0).trans ((dats (F := F) m ρ 0 c).arrAt_in (0 : Fin 5) rfl _),
        ((h c).1 1).trans ((dats (F := F) m ρ 0 c).arrAt_in (1 : Fin 5) rfl _),
        ((h c).1 2).trans ((dats (F := F) m ρ 0 c).arrAt_in (2 : Fin 5) rfl _),
        ((h c).1 3).trans ((dats (F := F) m ρ 0 c).arrAt_in (3 : Fin 5) rfl _),
        ((h c).1 4).trans ((dats (F := F) m ρ 0 c).arrAt_in (4 : Fin 5) rfl _)⟩,
      sem_eq_zero hs fun c => (h c).2.2.2⟩)

end Cert.HaloProof

end
-- ==== Proof.Softmax.lean ====
/-
  The softmax of a masked row over the extended reals: the reference's form, which subtracts the row's maximum and
  divides each weight, against the kernel's, which multiplies the sum of the plain exponentials by one reciprocal.
-/
module

public import Idealize.ShloMosaic.PureOps.Ideal
public import Idealize.ShloMosaic.PureOps.Ideal.Laws
public import Mathlib.Analysis.SpecialFunctions.Exp
public import Mathlib.Data.EReal.Operations
public import Mathlib.Data.EReal.Inv
public import Mathlib.Tactic.FieldSimp
public import Mathlib.Tactic.Positivity

@[expose] public section

noncomputable section

namespace Cert.HaloProof

open Idealize.ShloMosaic

variable {ι : Type} [Fintype ι]

/-- A real factor that is not negative passes through a sum of extended reals. -/
theorem sum_mul_coe (f : ι → EReal) {a : ℝ} (ha : 0 ≤ a) : (∑ k, f k) * (a : EReal) = ∑ k, f k * (a : EReal) := by
  classical
  refine Finset.induction_on (Finset.univ : Finset ι) (by simp) fun k s hk h => ?_
  rw [Finset.sum_insert hk, Finset.sum_insert hk, ← h]
  exact EReal.right_distrib_of_nonneg_of_ne_top (by exact_mod_cast ha) (EReal.coe_ne_top a) _ _

/-- A sum of reals, read among the extended reals. -/
theorem coe_sum (f : ι → ℝ) : ∑ k, (f k : EReal) = ((∑ k, f k : ℝ) : EReal) := by
  classical
  refine Finset.induction_on (Finset.univ : Finset ι) (by simp) fun k s hk h => ?_
  rw [Finset.sum_insert hk, Finset.sum_insert hk, h, EReal.coe_add]

/-- The row's maximum is a real number: some entry is, and no entry is plus infinity. -/
theorem max_real (p : ι → Prop) [DecidablePred p] (s : ι → ℝ) (hp : ∃ k, p k) :
    ∃ μ : ℝ, Finset.univ.fold max (⊥ : EReal) (fun k => if p k then (s k : EReal) else ⊥) = (μ : EReal) := by
  obtain ⟨k, hk⟩ := hp
  set M := Finset.univ.fold max (⊥ : EReal) (fun k => if p k then (s k : EReal) else ⊥) with hM
  have h1 : (s k : EReal) ≤ M := by
    rw [hM, Finset.le_fold_max]
    exact .inr ⟨k, Finset.mem_univ k, by rw [if_pos hk]⟩
  have h2 : M < ⊤ := by
    rw [hM, Finset.fold_max_lt]
    refine ⟨bot_lt_top, fun j _ => ?_⟩
    split
    · exact EReal.coe_lt_top _
    · exact bot_lt_top
  refine ⟨M.toReal, (EReal.coe_toReal h2.ne ?_).symm⟩
  intro hb
  rw [hb] at h1
  exact absurd h1 (not_le.2 (EReal.bot_lt_coe _))

/-- One masked exponential, as a real. -/
theorem exp_masked (q : Prop) [Decidable q] (x : ℝ) :
    (if q then Ideal.exp (x : EReal) else 0) = ((if q then Real.exp x else 0 : ℝ) : EReal) := by
  split <;> simp

/-- The softmax the reference computes is the one the kernel computes. -/
theorem softmax_eq (p : ι → Prop) [DecidablePred p] (s : ι → ℝ) (v : ι → EReal) (hp : ∃ k, p k) :
    ∑ k, v k * Ideal.div
        (Ideal.exp ((if p k then (s k : EReal) else ⊥)
          - Finset.univ.fold max ⊥ fun j => if p j then (s j : EReal) else ⊥))
        (∑ i, Ideal.exp ((if p i then (s i : EReal) else ⊥)
          - Finset.univ.fold max ⊥ fun j => if p j then (s j : EReal) else ⊥))
      = (∑ k, (if p k then Ideal.exp (s k : EReal) else 0) * v k)
        * Ideal.div 1 (∑ k, if p k then Ideal.exp (s k : EReal) else 0) := by
  obtain ⟨μ, hμ⟩ := max_real p s hp
  rw [hμ]
  have he (k : ι) : Ideal.exp ((if p k then (s k : EReal) else ⊥) - (μ : EReal))
      = ((if p k then Real.exp (s k) else 0) * Real.exp (-μ) : ℝ) := by
    split
    · rw [← EReal.coe_sub, Ideal.exp_coe, sub_eq_add_neg, Real.exp_add]
    · rw [EReal.bot_sub, Ideal.exp_bot, zero_mul, EReal.coe_zero]
  have hpos : 0 < ∑ k, if p k then Real.exp (s k) else 0 := by
    obtain ⟨k, hk⟩ := hp
    refine Finset.sum_pos' (fun j _ => ?_) ⟨k, Finset.mem_univ k, ?_⟩
    · split
      · exact (Real.exp_pos _).le
      · exact le_refl _
    · rw [if_pos hk]
      exact Real.exp_pos _
  have hE := Real.exp_pos (-μ)
  simp only [he, exp_masked, coe_sum, ← Finset.sum_mul]
  rw [Ideal.div_coe hpos.ne', one_mul, sum_mul_coe _ (by positivity)]
  refine Finset.sum_congr rfl fun k _ => ?_
  rw [Ideal.div_coe (mul_pos hpos hE).ne', ← EReal.coe_mul, mul_comm _ (v k), mul_assoc (v k), ← EReal.coe_mul]
  refine congrArg (fun x : ℝ => v k * (x : EReal)) ?_
  have := hpos.ne'
  have := hE.ne'
  field_simp

/-- A sum over sixteen blocks of which only block `c` and its two neighbours count. -/
theorem sum_window (c : Fin 16) (f : Fin 16 → EReal)
    (hf : ∀ j : Fin 16, (j : ℕ) + 1 < c ∨ (c : ℕ) + 1 < j → f j = 0) :
    ∑ j, f j = (if h : 0 < (c : ℕ) then f ⟨(c : ℕ) - 1, by omega⟩ else 0) + f c
      + (if h : (c : ℕ) < 15 then f ⟨(c : ℕ) + 1, by omega⟩ else 0) := by
  have h1 : (∑ j : Fin 16, if (j : ℕ) + 1 = c then f j else 0) = if h : 0 < (c : ℕ) then f ⟨(c : ℕ) - 1, by omega⟩ else 0 := by
    split
    · rw [Finset.sum_eq_single ⟨(c : ℕ) - 1, by omega⟩]
      · exact if_pos (by simp only; omega)
      · exact fun j _ hj => if_neg fun h => hj (Fin.ext (by simp only; omega))
      · exact fun h => absurd (Finset.mem_univ _) h
    · exact Finset.sum_eq_zero fun j _ => if_neg (by omega)
  have h2 : (∑ j, if j = c then f j else 0) = f c := by simp
  have h3 : (∑ j : Fin 16, if (j : ℕ) = c + 1 then f j else 0)
      = if h : (c : ℕ) < 15 then f ⟨(c : ℕ) + 1, by omega⟩ else 0 := by
    split
    · rw [Finset.sum_eq_single ⟨(c : ℕ) + 1, by omega⟩]
      · exact if_pos rfl
      · exact fun j _ hj => if_neg fun h => hj (Fin.ext h)
      · exact fun h => absurd (Finset.mem_univ _) h
    · exact Finset.sum_eq_zero fun j _ => if_neg (by omega)
  rw [← h1, ← h2, ← h3, ← Finset.sum_add_distrib, ← Finset.sum_add_distrib]
  refine Finset.sum_congr rfl fun j _ => ?_
  by_cases a : (j : ℕ) + 1 = c
  · rw [if_pos a, if_neg (by rintro rfl; omega), if_neg (by omega), add_zero, add_zero]
  · by_cases b : j = c
    · subst b
      rw [if_neg a, if_pos rfl, if_neg (by omega), zero_add, add_zero]
    · have hb : (j : ℕ) ≠ c := fun h => b (Fin.ext h)
      rw [if_neg a, if_neg b, zero_add, zero_add]
      split
      · rfl
      · exact hf j (by omega)

end Cert.HaloProof

end
-- ==== Proof.Window.lean ====
/-
  Attention to the 128 positions on either side, over whole arrays of 2048 positions, and how a sum over all the
  positions becomes a sum over a device's own block of 128 and its two neighbours'.
-/
module

public import proofs.«01_k».proof.Proof.Softmax
public import Idealize.ShloMosaic.Lib.Pointwise

@[expose] public section

noncomputable section

namespace Cert.HaloProof

open Idealize.ShloMosaic

/-- Position `a` of block `c`, among all the positions. -/
def row (c : Fin 16) (a : Fin 128) : Fin 2048 := ⟨c * 128 + a, by omega⟩

/-- Two positions at most 128 apart. -/
def near (i k : Fin 2048) : Prop := (i : ℕ) ≤ k + 128 ∧ (k : ℕ) ≤ i + 128

instance (i k : Fin 2048) : Decidable (near i k) := inferInstanceAs (Decidable (_ ∧ _))

/-- Every position is near itself. -/
theorem near_self (i : Fin 2048) : near i i := ⟨by omega, by omega⟩

/-- A position is near one of the left block exactly when it does not come after it within the block. -/
theorem near_left (c : Fin 16) (h : 0 < (c : ℕ)) (r a : Fin 128) : near (row c r) (row ⟨c - 1, by omega⟩ a) ↔ (r : ℕ) ≤ a := by
  simp only [near, row]; omega

/-- A position is near every one of its own block. -/
theorem near_own (c : Fin 16) (r a : Fin 128) : near (row c r) (row c a) := by
  simp only [near, row]; omega

/-- A position is near one of the right block exactly when it does not come before it within the block. -/
theorem near_right (c : Fin 16) (h : (c : ℕ) < 15) (r a : Fin 128) : near (row c r) (row ⟨c + 1, by omega⟩ a) ↔ (a : ℕ) ≤ r := by
  simp only [near, row]; omega

/-- Every position is in a block. -/
theorem exists_row (i : Fin 2048) : ∃ c a, i = row c a :=
  ⟨⟨i / 128, by omega⟩, ⟨i % 128, by omega⟩, Fin.ext (by simp only [row]; omega)⟩

/-- A sum over all the positions of terms that vanish away from position `row c r`: the left block, the own one, the
    right one. -/
theorem sum_keys (c : Fin 16) (r : Fin 128) (f : Fin 2048 → EReal) (hf : ∀ k, ¬ near (row c r) k → f k = 0) :
    ∑ k, f k = (∑ a : Fin 128, if h : 0 < (c : ℕ) then f (row ⟨c - 1, by omega⟩ a) else 0) + (∑ a : Fin 128, f (row c a))
      + ∑ a : Fin 128, if h : (c : ℕ) < 15 then f (row ⟨c + 1, by omega⟩ a) else 0 := by
  rw [Fin.sum_univ_tiles 16 128 rfl f]
  refine (sum_window c (fun j => ∑ a : Fin 128, f (row j a)) fun j hj => Finset.sum_eq_zero fun a _ => hf _ ?_).trans ?_
  · simp only [near, row]; omega
  · congr 1
    · congr 1
      split <;> simp
    · split <;> simp

/-- A sum over a window of three blocks. -/
theorem sum_window_rows (f : Fin 384 → EReal) :
    ∑ j, f j = (∑ a : Fin 128, f ⟨a, by omega⟩) + (∑ a : Fin 128, f ⟨128 + a, by omega⟩)
      + ∑ a : Fin 128, f ⟨256 + a, by omega⟩ := by
  rw [Fin.sum_univ_tiles 3 128 rfl f, Fin.sum_univ_three]
  simp

/-- The score of position `i` against position `k` in head `h` of batch `b`, as the kernel takes it: the query is scaled
    by `s` before it meets the key. -/
def score (s : EReal) (X : Fin 2 → Fin 2048 → Fin 512 → EReal) (Wq : Fin 512 → Fin 256 → EReal)
    (K : Fin 2 → Fin 2048 → Fin 4 → Fin 64 → EReal) (b : Fin 2) (h : Fin 4) (i k : Fin 2048) : EReal :=
  ∑ d : Fin 64, ((∑ p : Fin 512, X b i p * Wq p ⟨h * 64 + d, by omega⟩) * s) * K b k h d

/-- Entry `n` of the result at position `i` of batch `b`: each head's sum of the values near `i`, weighted by the
    exponentials `e b h i` of the scores, times the reciprocal of the sum of the weights, through `Wo`. -/
def attend (e : Fin 2 → Fin 4 → Fin 2048 → Fin 2048 → EReal) (V : Fin 2 → Fin 2048 → Fin 4 → Fin 64 → EReal)
    (Wo : Fin 256 → Fin 512 → EReal) (b : Fin 2) (i : Fin 2048) (n : Fin 512) : EReal :=
  ∑ x : Fin 256,
    ((∑ k, (if near i k then e b ⟨x / 64, by omega⟩ i k else 0) * V b k ⟨x / 64, by omega⟩ ⟨x % 64, by omega⟩)
      * Ideal.div 1 (∑ k, if near i k then e b ⟨x / 64, by omega⟩ i k else 0)) * Wo x n

end Cert.HaloProof

end
-- ==== Proof.Lookup.lean ====
/-
  The reference at an index: each of its steps in terms of the argument arrays, to attention over the positions near
  the query's.
-/
module

public import proofs.«01_k».proof.Proof.Gen.ReferenceIdeal.Read
public import proofs.«01_k».proof.Proof.Window
public import Idealize.ShloMosaic.Lib.WordCmp
public import Idealize.ShloMosaic.Lib.IdealHost

@[expose] public section

set_option maxRecDepth 16384

noncomputable section

namespace Cert.HaloProof

open Cert.ReferenceIdeal Cert.ReferenceIdeal.Gen Cert.ReferenceIdeal.Read Idealize.ShloMosaic Idealize.ShloMosaic.TcCoe

/-- The bits of minus infinity. -/
theorem ofBits_bot : Ideal.ofBits .f32 0xFF800000#32 = ⊥ := by
  simp [Ideal.ofBits, Ideal.ieee, -EReal.coe_mul]

/-- The bits of infinity. -/
theorem ofBits_top : Ideal.ofBits .f32 0x7F800000#32 = ⊤ := by
  simp [Ideal.ofBits, Ideal.ieee, -EReal.coe_mul]

/-- The scale of the scores is a number. -/
theorem ofBits_scale : Ideal.ofBits .f32 0x3E000000#32 = ((1 / 8 : ℝ) : EReal) := by
  simp [Ideal.ofBits, Ideal.ieee, -EReal.coe_mul]; norm_num

/-! ## The mask -/

/-- The distance of two positions, as the reference's words compute it. -/
theorem absi_subi (i k : Fin 2048) :
    IntOp.absi (IntOp.subi (BitVec.ofNat 32 i) (BitVec.ofNat 32 k)) = BitVec.ofNat 32 ((i - k : ℕ) + (k - i : ℕ)) := by
  by_cases h : (k : ℕ) ≤ i
  · have e : IntOp.subi (BitVec.ofNat 32 i) (BitVec.ofNat 32 k) = BitVec.ofNat 32 (i - k) := by
      apply BitVec.eq_of_toNat_eq; simp only [IntOp.subi, BitVec.toNat_sub, BitVec.toNat_ofNat]; omega
    have hm : (BitVec.ofNat 32 ((i : ℕ) - k)).msb = false := by
      rw [BitVec.msb_eq_decide]; simp only [BitVec.toNat_ofNat, decide_eq_false_iff_not]; omega
    rw [e, IntOp.absi, hm, show (k : ℕ) - i = 0 by omega]; rfl
  · have hm : (IntOp.subi (BitVec.ofNat 32 i) (BitVec.ofNat 32 k)).msb = true := by
      rw [BitVec.msb_eq_decide]
      simp only [IntOp.subi, BitVec.toNat_sub, BitVec.toNat_ofNat, decide_eq_true_eq]; omega
    rw [IntOp.absi, hm, if_pos rfl]
    apply BitVec.eq_of_toNat_eq
    simp only [IntOp.subi, BitVec.toNat_neg, BitVec.toNat_sub, BitVec.toNat_ofNat]; omega

/-- The mask keeps the positions near the query's. -/
theorem v11_at (i k : Fin 2048) : val_main_v11 (F := Ideal) (ix2 i k) = BitVec.ofBool (decide (near i k)) := by
  have h : val_main_v11 (F := Ideal) (ix2 i k)
      = IntOp.cmpi .sle (IntOp.absi (IntOp.subi (BitVec.ofNat 32 i) (BitVec.ofNat 32 k))) (BitVec.ofNat 32 128) := by
    pointwise [val_main_v11, val_main_v10, val_main_c, val_main_v9, val_main_v8, val_main_v7, val_main_v6, val_main_v5,
      val_main_v4, val_main_v3, val_main_v2]
  rw [h, absi_subi, WordCmp.cmpi_sle_ofNat (lt_trans (by omega : _ < 4096) (by norm_num)) (by norm_num)]
  refine congrArg BitVec.ofBool (decide_eq_decide.2 ?_)
  simp only [near]
  omega

/-- Every row keeps a position: its own. -/
theorem v22_at (i : Fin 2048) : val_main_v22 (F := Ideal) (ix1 i) = 1#1 := by
  have h : val_main_v22 (F := Ideal) (ix1 i)
      = Finset.univ.fold IntOp.ori (0#1) fun k => val_main_v11 (F := Ideal) (ix2 i k) := by
    unfold val_main_v22
    pointwise []
    rfl
  rw [h, ← Finset.insert_erase (Finset.mem_univ i), Finset.fold_insert (Finset.notMem_erase i _), v11_at,
    decide_eq_true (near_self i)]
  exact (by decide : ∀ y : BitVec 1, IntOp.ori (BitVec.ofBool true) y = 1#1) _

/-! ## The weights -/

variable (x0 : Vec Ideal S2x2048x512 .f32) (x1 : Vec Ideal S512x256 .f32) (x2 x3 : Vec Ideal S2x2048x4x64 .f32)
  (x4 : Vec Ideal S256x512 .f32)

/-- The queries. -/
theorem v1_at (b : Fin 2) (i : Fin 2048) (h : Fin 4) (d : Fin 64) :
    val_main_v1 (F := Ideal) x0 x1 (ix4 b i h d) = ∑ p : Fin 512, x0 (ix3 b i p) * x1 (ix2 p ⟨h * 64 + d, by omega⟩) := by
  pointwise [val_main_v1, val_main_v0]

/-- The scores, scaled. -/
theorem v14_at (b : Fin 2) (h : Fin 4) (i k : Fin 2048) :
    val_main_v14 (F := Ideal) x0 x1 x2 (ix4 b h i k)
      = (∑ d : Fin 64, val_main_v1 (F := Ideal) x0 x1 (ix4 b i h d) * x2 (ix4 b k h d)) * Ideal.ofBits .f32 0x3E000000#32 := by
  unfold val_main_v14 val_main_v12 val_main_v13 val_main_cst
  generalize val_main_v1 (F := Ideal) x0 x1 = y
  pointwise []

/-- The scores, minus infinity where the mask does not keep the position. -/
theorem v16_at (b : Fin 2) (h : Fin 4) (i k : Fin 2048) :
    val_main_v16 (F := Ideal) x0 x1 x2 (ix4 b h i k)
      = if near i k then val_main_v14 (F := Ideal) x0 x1 x2 (ix4 b h i k) else ⊥ := by
  have e : val_main_v16 (F := Ideal) x0 x1 x2 (ix4 b h i k)
      = Scalar.select (val_main_v11 (F := Ideal) (ix2 i k)) (val_main_v14 (F := Ideal) x0 x1 x2 (ix4 b h i k))
        (Ideal.ofBits .f32 0xFF800000#32) := by
    unfold val_main_v16 val_main_call0_v1 val_main_v15 val_main_call0_v2 val_main_call0_v0 val_main_cst_0
    generalize val_main_v11 (F := Ideal) = y
    generalize val_main_v14 (F := Ideal) x0 x1 x2 = z
    pointwise []
    rfl
  rw [e, v11_at, ofBits_bot]
  by_cases hn : near i k
  · rw [decide_eq_true hn, if_pos hn]; rfl
  · rw [decide_eq_false hn, if_neg hn]; rfl

/-- The largest score of a row. -/
theorem v17_at (b : Fin 2) (h : Fin 4) (i : Fin 2048) :
    val_main_v17 (F := Ideal) x0 x1 x2 (ix3 b h i)
      = Finset.univ.fold max ⊥ fun k => val_main_v16 (F := Ideal) x0 x1 x2 (ix4 b h i k) := by
  unfold val_main_v17 val_main_cst_1
  generalize val_main_v16 (F := Ideal) x0 x1 x2 = y
  rw [← ofBits_bot]
  pointwise []

/-- The exponentials of the differences from it. -/
theorem v21_at (b : Fin 2) (h : Fin 4) (i k : Fin 2048) :
    val_main_v21 (F := Ideal) x0 x1 x2 (ix4 b h i k)
      = Ideal.exp (val_main_v16 (F := Ideal) x0 x1 x2 (ix4 b h i k) - val_main_v17 (F := Ideal) x0 x1 x2 (ix3 b h i)) := by
  unfold val_main_v21 val_main_v20 val_main_v19 val_main_v18
  generalize val_main_v16 (F := Ideal) x0 x1 x2 = y
  generalize val_main_v17 (F := Ideal) x0 x1 x2 = z
  pointwise []

/-- The sum of a row's exponentials. -/
theorem v24_at (b : Fin 2) (h : Fin 4) (i : Fin 2048) :
    val_main_v24 (F := Ideal) x0 x1 x2 (ix3 b h i) = ∑ k, val_main_v21 (F := Ideal) x0 x1 x2 (ix4 b h i k) := by
  unfold val_main_v24 val_main_cst_3
  generalize val_main_v21 (F := Ideal) x0 x1 x2 = z
  pointwise []

/-- What a row's exponentials are divided by: their sum, as every row keeps a position. -/
theorem v26_at (b : Fin 2) (h : Fin 4) (i : Fin 2048) :
    val_main_v26 (F := Ideal) x0 x1 x2 (ix4 b h i 0) = val_main_v24 (F := Ideal) x0 x1 x2 (ix3 b h i) := by
  have e : val_main_v26 (F := Ideal) x0 x1 x2 (ix4 b h i 0)
      = Scalar.select (val_main_v22 (F := Ideal) (ix1 i)) (val_main_v24 (F := Ideal) x0 x1 x2 (ix3 b h i))
        (val_main_call1_v2 (F := Ideal) (ix4 b h i 0)) := by
    unfold val_main_v26 val_main_call1_v1 val_main_v25 val_main_v23
    generalize val_main_v22 (F := Ideal) = y
    generalize val_main_v24 (F := Ideal) x0 x1 x2 = z
    generalize val_main_call1_v2 (F := Ideal) = o
    pointwise []
  rw [e, v22_at, ValueIdx.select_one]

theorem v27_at (b : Fin 2) (h : Fin 4) (i k : Fin 2048) :
    val_main_v27 (F := Ideal) x0 x1 x2 (ix4 b h i k) = val_main_v26 (F := Ideal) x0 x1 x2 (ix4 b h i 0) := by
  unfold val_main_v27
  generalize val_main_v26 (F := Ideal) x0 x1 x2 = z
  pointwise []

theorem v28_at (b : Fin 2) (h : Fin 4) (i k : Fin 2048) :
    val_main_v28 (F := Ideal) x0 x1 x2 (ix4 b h i k)
      = Ideal.div (val_main_v21 (F := Ideal) x0 x1 x2 (ix4 b h i k)) (val_main_v26 (F := Ideal) x0 x1 x2 (ix4 b h i 0)) := by
  rw [val_main_v28_apply, v27_at, Ideal.hostDivf_def]

/-- The weights: each exponential over the sum of its row's. -/
theorem v30_at (b : Fin 2) (h : Fin 4) (i k : Fin 2048) :
    val_main_v30 (F := Ideal) x0 x1 x2 (ix4 b h i k)
      = Ideal.div (val_main_v21 (F := Ideal) x0 x1 x2 (ix4 b h i k)) (∑ k, val_main_v21 (F := Ideal) x0 x1 x2 (ix4 b h i k)) := by
  have e : val_main_v30 (F := Ideal) x0 x1 x2 (ix4 b h i k)
      = Scalar.select (val_main_v22 (F := Ideal) (ix1 i)) (val_main_v28 (F := Ideal) x0 x1 x2 (ix4 b h i k))
        (val_main_call2_v2 (F := Ideal) (ix4 b h i k)) := by
    unfold val_main_v30 val_main_call2_v1 val_main_v29
    generalize val_main_v22 (F := Ideal) = y
    generalize val_main_v28 (F := Ideal) x0 x1 x2 = z
    generalize val_main_call2_v2 (F := Ideal) = o
    pointwise []
  rw [e, v22_at, ValueIdx.select_one, v28_at, v26_at, v24_at]

/-! ## The result -/

/-- The result: the weighted values, through the last weight. -/
theorem v34_at (b : Fin 2) (i : Fin 2048) (n : Fin 512) :
    val_main_v34 (F := Ideal) x0 x1 x2 x3 x4 (ix3 b i n)
      = ∑ x : Fin 256, (∑ k, x3 (ix4 b k ⟨x / 64, by omega⟩ ⟨x % 64, by omega⟩)
          * val_main_v30 (F := Ideal) x0 x1 x2 (ix4 b ⟨x / 64, by omega⟩ i k)) * x4 (ix2 x n) := by
  unfold val_main_v34 val_main_v33 val_main_v32 val_main_v31
  generalize val_main_v30 (F := Ideal) x0 x1 x2 = z
  pointwise []

/-- The result at an index is attention over the positions near it, where `x`, `Wq` and the keys are numbers. -/
theorem reference_at (y0 : S2x2048x512.Idx → ℝ) (y1 : S512x256.Idx → ℝ) (y2 : S2x2048x4x64.Idx → ℝ)
    (h0 : ∀ j, x0 j = (y0 j : EReal)) (h1 : ∀ j, x1 j = (y1 j : EReal)) (h2 : ∀ j, x2 j = (y2 j : EReal))
    (b : Fin 2) (i : Fin 2048) (n : Fin 512) :
    val_main_v34 (F := Ideal) x0 x1 x2 x3 x4 (ix3 b i n)
      = attend (fun b h i k => Ideal.exp (score (Ideal.ofBits .f32 0x3E000000#32) (fun b i p => x0 (ix3 b i p)) (fun p e => x1 (ix2 p e))
            (fun b k h d => x2 (ix4 b k h d)) b h i k))
          (fun b k h d => x3 (ix4 b k h d)) (fun e n => x4 (ix2 e n)) b i n := by
  let s (h : Fin 4) (k : Fin 2048) : ℝ :=
    (∑ d : Fin 64, (∑ p : Fin 512, y0 (ix3 b i p) * y1 (ix2 p ⟨h * 64 + d, by omega⟩)) * y2 (ix4 b k h d)) * (1 / 8)
  have hs (h : Fin 4) (k : Fin 2048) : val_main_v14 (F := Ideal) x0 x1 x2 (ix4 b h i k) = (s h k : EReal) := by
    simp only [v14_at, v1_at, h0, h1, h2, ofBits_scale, ← EReal.coe_mul, coe_sum, s]
  have hk (h : Fin 4) (k : Fin 2048) : score (Ideal.ofBits .f32 0x3E000000#32) (fun b i p => x0 (ix3 b i p)) (fun p e => x1 (ix2 p e))
      (fun b k h d => x2 (ix4 b k h d)) b h i k = (s h k : EReal) := by
    simp only [score, h0, h1, h2, ofBits_scale, ← EReal.coe_mul, coe_sum, s, EReal.coe_eq_coe_iff, Finset.sum_mul]
    exact Finset.sum_congr rfl fun d _ => Finset.sum_congr rfl fun p _ => by ring
  rw [v34_at]
  simp only [attend, hk, v30_at, v21_at, v17_at, v16_at, hs]
  exact Finset.sum_congr rfl fun x _ => congrArg (· * _)
    (softmax_eq (near i) (s ⟨x / 64, by omega⟩) (fun k => x3 (ix4 b k ⟨x / 64, by omega⟩ ⟨x % 64, by omega⟩)) ⟨i, near_self i⟩)

end Cert.HaloProof

end
-- ==== Proof.Finite.lean ====
/-
  The precondition: what it says of each element of `x`, `Wq` and the keys.
-/
module

public import proofs.«01_k».proof.Pre_finite_KernelIdeal
public import proofs.«01_k».proof.Pre_finite_ReferenceIdeal
public import proofs.«01_k».proof.Proof.Lookup

@[expose] public section

set_option maxRecDepth 16384

noncomputable section

namespace Cert.HaloProof

open Idealize.ShloMosaic

/-- The shape relations that the precondition states, over one device's blocks and over whole arrays. -/
theorem finite_facts : Cert.Pre_finite_KernelIdeal.Facts := ⟨by decide, by decide, by decide⟩
theorem finite_facts_whole : Cert.Pre_finite_ReferenceIdeal.Facts := ⟨by decide, by decide, by decide⟩

/-- An extended real whose absolute value is below infinity is a number. -/
theorem real_of_abs_lt {x : EReal} (h : Ideal.cmp .olt (max x (-x)) ⊤ = 1#1) : ∃ y : ℝ, x = (y : EReal) := by
  induction x with
  | bot => simp [Ideal.cmp] at h
  | top => simp [Ideal.cmp] at h
  | coe y => exact ⟨y, rfl⟩

attribute [local instance] finite_facts

section

open Cert.Pre_finite_KernelIdeal

variable (x : FVec Ideal S2x128x512 .f32) (wq : FVec Ideal S512x256 .f32) (k v : FVec Ideal S2x128x4x64 .f32)
  (wo : FVec Ideal S256x512 .f32)

/-- Under the precondition every element of `x`, of `Wq` and of the keys is a number. -/
theorem x_real (h : (fn (F := Ideal) x wq k v wo).1 = fun _ => 1#1) (b : Fin 2) (r : Fin 128) (d : Fin 512) :
    ∃ y : ℝ, x (ix3 b r d) = (y : EReal) := by
  refine real_of_abs_lt ((Eq.symm ?_).trans (congrFun h (ix3 b r d)))
  rw [← ofBits_top]
  pointwise [fn]
  rw [Ideal.absf_def]
theorem wq_real (h : (fn (F := Ideal) x wq k v wo).2.1 = fun _ => 1#1) (d : Fin 512) (e : Fin 256) :
    ∃ y : ℝ, wq (ix2 d e) = (y : EReal) := by
  refine real_of_abs_lt ((Eq.symm ?_).trans (congrFun h (ix2 d e)))
  rw [← ofBits_top]
  pointwise [fn]
  rw [Ideal.absf_def]
theorem k_real (h : (fn (F := Ideal) x wq k v wo).2.2 = fun _ => 1#1) (b : Fin 2) (r : Fin 128) (e : Fin 4) (d : Fin 64) :
    ∃ y : ℝ, k (ix4 b r e d) = (y : EReal) := by
  refine real_of_abs_lt ((Eq.symm ?_).trans (congrFun h (ix4 b r e d)))
  rw [← ofBits_top]
  pointwise [fn]
  rw [Ideal.absf_def]

end

end Cert.HaloProof

end
-- ==== Proof.Frames.lean ====
/-
  The frames: each program terminates without a fault, leaves its arguments as they were and every semaphore
  counter at zero.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Finite
public import Idealize.ShloMosaic.Lib.Quiescent

@[expose] public section

set_option maxRecDepth 65536

noncomputable section

namespace Cert.Proof

open Idealize.ShloMosaic Idealize.SL.Sem

attribute [local instance] Cert.Kernel.Gen.facts Cert.KernelIdeal.Gen.facts Cert.ReferenceIdeal.Gen.facts
  Cert.HaloProof.finite_facts Cert.HaloProof.finite_facts_whole

/-- The frame of the kernel over the extended reals. -/
theorem frame_kernelIdeal : Cert.quiescent_KernelIdeal := fun m ρ _ =>
  (θ_run Cert.KernelIdeal.defs _ _).mono (fun _ h => ⟨fun c => (h.1 c).2, h.2⟩)
    (Cert.HaloProof.run_main (F := Ideal) m ρ)
/-- The same under the precondition, which it does not use. -/
theorem frame_kernelIdeal_finite : Cert.quiescent_KernelIdeal_pre_finite_KernelIdeal := fun m ρ _ =>
  frame_kernelIdeal m ρ trivial

/-- The two kernel programs have the same body table, over any float values. -/
theorem bodies_eq {F : FTy → Type} [FloatOps F] : Cert.Kernel.defs₀ (F := F) = Cert.KernelIdeal.defs₀ := by
  unfold Cert.Kernel.defs₀ Cert.KernelIdeal.defs₀
  refine congrArg _ ?_
  funext l
  match l with
  | 0 => rfl

/-- So they have the same table of regions and bodies. -/
theorem defs_eq {F : FTy → Type} [FloatOps F] : Cert.Kernel.defs (F := F) = Cert.KernelIdeal.defs := by
  unfold Cert.Kernel.defs Cert.KernelIdeal.defs
  exact congrArg _ bodies_eq

/-- The frame of the kernel over bit patterns: its text is that of the ideal program, so it is the same run. -/
theorem frame_kernel : Cert.quiescent_Kernel := by
  intro m ρ _
  rw [defs_eq]
  exact (θ_run Cert.KernelIdeal.defs _ _).mono (fun _ h => ⟨fun c => (h.1 c).2, h.2⟩)
    (Cert.HaloProof.run_main (F := Bits) m ρ)

/-- The frame of the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
/-- The same under the precondition, which it does not use. -/
theorem frame_reference_finite : Cert.quiescent_ReferenceIdeal_pre_finite_ReferenceIdeal := fun m ρ _ =>
  frame_reference m ρ trivial

end Cert.Proof

end
-- ==== Proof.Payload.lean ====
/-
  What the kernel's payloads are at one index, over the extended reals: the masked exponential of a score, its row's
  reciprocal, and a row of the result.
-/
module

public import proofs.«01_k».proof.Proof.Gen.KernelIdeal.Skeleton
public import Idealize.ShloMosaic.Lib.Pointwise
public import Idealize.ShloMosaic.Lib.ValueIdx

@[expose] public section

set_option maxRecDepth 16384

noncomputable section

namespace Cert.HaloProof

open Cert.KernelIdeal Cert.KernelIdeal.Gen Idealize.ShloMosaic Idealize.ShloMosaic.TcCoe

/-- Three blocks of 128 rows, one on another: the left neighbour's, the device's own, the right neighbour's. -/
def cat3 {α : Type} (l o r : Fin 128 → α) (j : Fin 384) : α :=
  if h : (j : ℕ) < 128 then l ⟨j, h⟩
  else if h : (j : ℕ) - 128 < 128 then o ⟨(j : ℕ) - 128, h⟩
  else r ⟨(j : ℕ) - 128 - 128, by omega⟩

/-- The masked exponential of the score of query row `r` of batch `b` against window row `j`, in head `h`. -/
def wgt (q : FVec Ideal S256x256 .f32) (mk : IVec S128x384 1) (k : FVec Ideal S384x256 .bf16)
    (b : Fin 2) (h : Fin 4) (r : Fin 128) (j : Fin 384) : EReal :=
  Scalar.select (mk (ix2 r j))
    (Ideal.exp (∑ d : Fin 64, q (ix2 ⟨b * 128 + r, by omega⟩ ⟨h * 64 + d, by omega⟩)
      * k (ix2 j ⟨h * 64 + d, by omega⟩))) 0

section Weights

variable (q : FVec Ideal S256x256 .f32) (mk : IVec S128x384 1) (k : FVec Ideal S384x256 .bf16) (r : Fin 128)
  (x : Vec Ideal S2x128x512 .f32) (wq : Vec Ideal S512x256 .f32)
  (kl kr : Vec Ideal S1x1x128x256 .bf16) (ko : Vec Ideal S1x128x256 .bf16)

/-- Head 0 of batch 0. -/
theorem pay19_at (j : Fin 384) :
    k0_pay19 mk (k0_pay17 x wq) (k0_pay18 kl ko kr) (constant S128x384 .f32 0x00000000#32) (ix2 r j)
      = wgt (k0_pay14 x wq) mk (k0_pay16 kl ko kr) 0 0 r j := by
  unfold wgt
  pointwise [k0_pay19, k0_pay17, k0_pay18]

theorem pay20_at :
    k0_pay20 mk (k0_pay17 x wq) (k0_pay18 kl ko kr) (constant S128x384 .f32 0x00000000#32) (ix2 r 0)
      = Ideal.div 1 (∑ j, wgt (k0_pay14 x wq) mk (k0_pay16 kl ko kr) 0 0 r j) := by
  simp only [← pay19_at]
  pointwise [k0_pay20]

theorem pay21_at (j : Fin 384) :
    k0_pay21 mk (k0_pay17 x wq) (k0_pay18 kl ko kr) (constant S128x384 .f32 0x00000000#32) (ix2 r j)
      = wgt (k0_pay14 x wq) mk (k0_pay16 kl ko kr) 0 0 r j := by
  rw [← pay19_at]
  pointwise [k0_pay21]

/-- Head 1 of batch 0. -/
theorem pay22_at (j : Fin 384) : k0_pay22 q mk k (ix2 r j) = wgt q mk k 0 1 r j := by
  unfold wgt
  pointwise [k0_pay22]

theorem pay23_at : k0_pay23 q mk k (ix2 r 0) = Ideal.div 1 (∑ j, wgt q mk k 0 1 r j) := by
  simp only [← pay22_at]
  pointwise [k0_pay23]

theorem pay24_at (j : Fin 384) : k0_pay24 q mk k (ix2 r j) = wgt q mk k 0 1 r j := by
  rw [← pay22_at]
  pointwise [k0_pay24]

/-- Head 2 of batch 0. -/
theorem pay25_at (j : Fin 384) : k0_pay25 q mk k (ix2 r j) = wgt q mk k 0 2 r j := by
  unfold wgt
  pointwise [k0_pay25]

theorem pay26_at : k0_pay26 q mk k (ix2 r 0) = Ideal.div 1 (∑ j, wgt q mk k 0 2 r j) := by
  simp only [← pay25_at]
  pointwise [k0_pay26]

theorem pay27_at (j : Fin 384) : k0_pay27 q mk k (ix2 r j) = wgt q mk k 0 2 r j := by
  rw [← pay25_at]
  pointwise [k0_pay27]

/-- Head 3 of batch 0. -/
theorem pay28_at (j : Fin 384) : k0_pay28 q mk k (ix2 r j) = wgt q mk k 0 3 r j := by
  unfold wgt
  pointwise [k0_pay28]

theorem pay29_at : k0_pay29 q mk k (ix2 r 0) = Ideal.div 1 (∑ j, wgt q mk k 0 3 r j) := by
  simp only [← pay28_at]
  pointwise [k0_pay29]

theorem pay30_at (j : Fin 384) : k0_pay30 q mk k (ix2 r j) = wgt q mk k 0 3 r j := by
  rw [← pay28_at]
  pointwise [k0_pay30]

/-- Head 0 of batch 1. -/
theorem pay33_at (j : Fin 384) : k0_pay33 q mk kl ko kr (ix2 r j) = wgt q mk (k0_pay32 kl ko kr) 1 0 r j := by
  unfold wgt
  pointwise [k0_pay33]

theorem pay34_at : k0_pay34 q mk kl ko kr (ix2 r 0)
    = Ideal.div 1 (∑ j, wgt q mk (k0_pay32 kl ko kr) 1 0 r j) := by
  simp only [← pay33_at]
  pointwise [k0_pay34]

theorem pay35_at (j : Fin 384) : k0_pay35 q mk kl ko kr (ix2 r j) = wgt q mk (k0_pay32 kl ko kr) 1 0 r j := by
  rw [← pay33_at]
  pointwise [k0_pay35]

/-- Head 1 of batch 1. -/
theorem pay38_at (j : Fin 384) :
    k0_pay38 mk (k0_pay36 q) (k0_pay37 kl ko kr) (constant S128x384 .f32 0x00000000#32) (ix2 r j)
      = wgt q mk (k0_pay32 kl ko kr) 1 1 r j := by
  unfold wgt
  pointwise [k0_pay38, k0_pay36, k0_pay37]

theorem pay39_at :
    k0_pay39 mk (k0_pay36 q) (k0_pay37 kl ko kr) (constant S128x384 .f32 0x00000000#32) (ix2 r 0)
      = Ideal.div 1 (∑ j, wgt q mk (k0_pay32 kl ko kr) 1 1 r j) := by
  simp only [← pay38_at]
  pointwise [k0_pay39]

theorem pay40_at (j : Fin 384) :
    k0_pay40 mk (k0_pay36 q) (k0_pay37 kl ko kr) (constant S128x384 .f32 0x00000000#32) (ix2 r j)
      = wgt q mk (k0_pay32 kl ko kr) 1 1 r j := by
  rw [← pay38_at]
  pointwise [k0_pay40]

/-- Head 2 of batch 1. -/
theorem pay41_at (j : Fin 384) : k0_pay41 q mk k (ix2 r j) = wgt q mk k 1 2 r j := by
  unfold wgt
  pointwise [k0_pay41]

theorem pay42_at : k0_pay42 q mk k (ix2 r 0) = Ideal.div 1 (∑ j, wgt q mk k 1 2 r j) := by
  simp only [← pay41_at]
  pointwise [k0_pay42]

theorem pay43_at (j : Fin 384) : k0_pay43 q mk k (ix2 r j) = wgt q mk k 1 2 r j := by
  rw [← pay41_at]
  pointwise [k0_pay43]

/-- Head 3 of batch 1. -/
theorem pay44_at (j : Fin 384) : k0_pay44 q mk k (ix2 r j) = wgt q mk k 1 3 r j := by
  unfold wgt
  pointwise [k0_pay44]

theorem pay45_at : k0_pay45 q mk k (ix2 r 0) = Ideal.div 1 (∑ j, wgt q mk k 1 3 r j) := by
  simp only [← pay44_at]
  pointwise [k0_pay45]

theorem pay46_at (j : Fin 384) : k0_pay46 q mk k (ix2 r j) = wgt q mk k 1 3 r j := by
  rw [← pay44_at]
  pointwise [k0_pay46]

end Weights

/-- The keys of the window, row by row. -/
theorem pay16_at (kl kr : Vec Ideal S1x1x128x256 .bf16) (ko : Vec Ideal S1x128x256 .bf16) (j : Fin 384) (e : Fin 256) :
    k0_pay16 kl ko kr (ix2 j e) = cat3 (fun a => kl (ix4 0 0 a e)) (fun a => ko (ix3 0 a e)) (fun a => kr (ix4 0 0 a e)) j := by
  unfold cat3
  pointwise [k0_pay16]

theorem pay32_at (kl kr : Vec Ideal S1x1x128x256 .bf16) (ko : Vec Ideal S1x128x256 .bf16) (j : Fin 384) (e : Fin 256) :
    k0_pay32 kl ko kr (ix2 j e) = cat3 (fun a => kl (ix4 0 0 a e)) (fun a => ko (ix3 0 a e)) (fun a => kr (ix4 0 0 a e)) j := by
  unfold cat3
  pointwise [k0_pay32]

/-- The queries, scaled. -/
theorem pay14_at (x : Vec Ideal S2x128x512 .f32) (wq : Vec Ideal S512x256 .f32) (b : Fin 2) (r : Fin 128) (e : Fin 256) :
    k0_pay14 x wq (ix2 ⟨b * 128 + r, by omega⟩ e)
      = (∑ d : Fin 512, x (ix3 b r d) * wq (ix2 d e)) * Ideal.ofBits .f32 0x3E000000#32 := by
  pointwise [k0_pay14]

/-- The mask of the window. -/
theorem pay15_at (u v : BitVec 1) (r : Fin 128) (j : Fin 384) :
    k0_pay15 u v (ix2 r j)
      = cat3 (fun a : Fin 128 => IntOp.andi (IntOp.cmpi .sle (BitVec.ofNat 32 r) (BitVec.ofNat 32 a)) u) (fun _ => 1#1)
          (fun a : Fin 128 => IntOp.andi (IntOp.cmpi .sge (BitVec.ofNat 32 r) (BitVec.ofNat 32 a)) v) j := by
  unfold cat3
  pointwise [k0_pay15]

/-- A row of the result: each head's weighted sum of the values, times the head's reciprocal, through `Wo`. -/
def outRow (W : Fin 4 → Fin 384 → EReal) (R : Fin 4 → EReal) (V : Fin 256 → Fin 384 → EReal)
    (wo : Vec Ideal S256x512 .f32) (n : Fin 512) : EReal :=
  ∑ x : Fin 256, ((∑ j, W ⟨x / 64, by omega⟩ j * V x j) * R ⟨x / 64, by omega⟩) * wo (ix2 x n)

section Rows

variable (r0 r1 r2 r3 : FVec Ideal S128x1 .f32) (w0 w1 w2 w3 : FVec Ideal S128x384 .bf16)
  (vl vr : Vec Ideal S1x1x128x256 .bf16) (vo : Vec Ideal S1x128x256 .bf16) (wo : Vec Ideal S256x512 .f32)
  (r : Fin 128) (n : Fin 512) (W : Fin 4 → Fin 384 → EReal) (R : Fin 4 → EReal)

/-- A choice by the column's head, column by column, is the column's own head's. -/
theorem by_head (f : Fin 4 → Fin 256 → EReal) (x : Fin 256) :
    (if h : (x : ℕ) < 64 then f 0 x
      else if h : (x : ℕ) - 64 < 64 then f 1 ⟨64 + ((x : ℕ) - 64), by omega⟩
      else if h : (x : ℕ) - 64 - 64 < 64 then f 2 ⟨128 + ((x : ℕ) - 64 - 64), by omega⟩
      else f 3 ⟨192 + ((x : ℕ) - 64 - 64 - 64), by omega⟩) = f ⟨(x : ℕ) / 64, by omega⟩ x := by
  split_ifs <;> congr 1 <;> refine Fin.ext ?_ <;> simp <;> omega

/-- The result of batch 0. -/
theorem pay31_at
    (hw0 : ∀ j, w0 (ix2 r j) = W 0 j) (hw1 : ∀ j, w1 (ix2 r j) = W 1 j) (hw2 : ∀ j, w2 (ix2 r j) = W 2 j)
    (hw3 : ∀ j, w3 (ix2 r j) = W 3 j) (hr0 : r0 (ix2 r 0) = R 0) (hr1 : r1 (ix2 r 0) = R 1) (hr2 : r2 (ix2 r 0) = R 2)
    (hr3 : r3 (ix2 r 0) = R 3) :
    k0_pay31 r0 w0 r1 w1 r2 w2 r3 w3 vl vo vr wo (ix3 0 r n)
      = outRow W R (fun e => cat3 (fun a => vl (ix4 0 0 a e)) (fun a => vo (ix3 0 a e)) (fun a => vr (ix4 0 0 a e)))
          wo n := by
  unfold outRow cat3
  pointwise [k0_pay31]
  simp only [hw0, hw1, hw2, hw3, hr0, hr1, hr2, hr3]
  exact Finset.sum_congr rfl fun x _ => congrArg (· * _) (by_head (fun h e => (∑ j, W h j * cat3
    (fun a => vl (ix4 0 0 a e)) (fun a => vo (ix3 0 a e)) (fun a => vr (ix4 0 0 a e)) j) * R h) x)

/-- The result of batch 1. -/
theorem pay48_at
    (hw0 : ∀ j, w0 (ix2 r j) = W 0 j) (hw1 : ∀ j, w1 (ix2 r j) = W 1 j) (hw2 : ∀ j, w2 (ix2 r j) = W 2 j)
    (hw3 : ∀ j, w3 (ix2 r j) = W 3 j) (hr0 : r0 (ix2 r 0) = R 0) (hr1 : r1 (ix2 r 0) = R 1) (hr2 : r2 (ix2 r 0) = R 2)
    (hr3 : r3 (ix2 r 0) = R 3) :
    k0_pay48 r0 w0 r1 w1 r2 w2 r3 w3 (k0_pay47 vl) vo vr wo (ix3 0 r n)
      = outRow W R (fun e => cat3 (fun a => vl (ix4 0 0 a e)) (fun a => vo (ix3 0 a e)) (fun a => vr (ix4 0 0 a e)))
          wo n := by
  unfold outRow cat3
  pointwise [k0_pay48, k0_pay47]
  simp only [hw0, hw1, hw2, hw3, hr0, hr1, hr2, hr3]
  exact Finset.sum_congr rfl fun x _ => congrArg (· * _) (by_head (fun h e => (∑ j, W h j * cat3
    (fun a => vl (ix4 0 0 a e)) (fun a => vo (ix3 0 a e)) (fun a => vr (ix4 0 0 a e)) j) * R h) x)

end Rows

end Cert.HaloProof

end
-- ==== Proof.Blocks.lean ====
/-
  The kernel's reads, in terms of the argument arrays, and its result at an index: attention over whole arrays of which
  every device holds a block.
-/
module

public import proofs.«01_k».proof.Proof.Schedule
public import proofs.«01_k».proof.Proof.Payload
public import proofs.«01_k».proof.Proof.Window
public import Idealize.ShloMosaic.Lib.VecWindow
public import Idealize.ShloMosaic.Lib.WordCmp
public import Idealize.ShloMosaic.Lib.Pipeline.ValueKit

@[expose] public section

set_option maxRecDepth 16384

noncomputable section

namespace Cert.HaloProof

open Cert.KernelIdeal Cert.KernelIdeal.Gen Idealize.ShloMosaic Idealize.ShloMosaic.TcCoe

/-! ## The window of a device -/

section Pure

variable (c : Fin 16)

/-- The window of device `c` of whole contents `g`: the left block, the own one, the right one, with `0` for a block
    that is not there. -/
def win3 (g : Fin 2048 → EReal) : Fin 384 → EReal :=
  cat3 (fun a => if h : 0 < (c : ℕ) then g (row ⟨c - 1, by omega⟩ a) else 0) (fun a => g (row c a))
    (fun a => if h : (c : ℕ) < 15 then g (row ⟨c + 1, by omega⟩ a) else 0)

theorem cat3_left {α : Type} (l o r : Fin 128 → α) (a : Fin 128) : cat3 l o r ⟨a, by omega⟩ = l a := by
  simp [cat3]
theorem cat3_own {α : Type} (l o r : Fin 128 → α) (a : Fin 128) : cat3 l o r ⟨128 + a, by omega⟩ = o a := by
  simp [cat3]
theorem cat3_right {α : Type} (l o r : Fin 128 → α) (a : Fin 128) : cat3 l o r ⟨256 + a, by omega⟩ = r a := by
  have h : ¬ 256 + (a : ℕ) - 128 < 128 := by omega
  have h' : 256 + (a : ℕ) - 128 - 128 = a := by omega
  have h'' : ¬ 256 + (a : ℕ) < 128 := by omega
  simp [cat3, h, h', h'']

/-- Two functions of the window agree when they agree on each of its blocks. -/
theorem cat3_ext {α : Type} {f g : Fin 384 → α} (hl : ∀ a : Fin 128, f ⟨a, by omega⟩ = g ⟨a, by omega⟩)
    (ho : ∀ a : Fin 128, f ⟨128 + a, by omega⟩ = g ⟨128 + a, by omega⟩)
    (hr : ∀ a : Fin 128, f ⟨256 + a, by omega⟩ = g ⟨256 + a, by omega⟩) (j : Fin 384) : f j = g j := by
  by_cases h : (j : ℕ) < 128
  · exact hl ⟨j, h⟩
  · by_cases h' : (j : ℕ) < 256
    · have e : j = ⟨128 + ((j : ℕ) - 128), by omega⟩ := Fin.ext (by simp only; omega)
      rw [e]; exact ho ⟨(j : ℕ) - 128, by omega⟩
    · have e : j = ⟨256 + ((j : ℕ) - 256), by omega⟩ := Fin.ext (by simp only; omega)
      rw [e]; exact hr ⟨(j : ℕ) - 256, by omega⟩

/-- A sum over the window is the sum over all the positions, of terms that vanish away from position `row c r`. -/
theorem sum_win3 (r : Fin 128) (f : Fin 2048 → EReal) (hf : ∀ k, ¬ near (row c r) k → f k = 0) :
    ∑ j, win3 c f j = ∑ k, f k := by
  rw [sum_window_rows, sum_keys c r f hf]
  simp only [win3, cat3_left, cat3_own, cat3_right]

/-- The window of a product is the product of the windows. -/
theorem win3_mul (f g : Fin 2048 → EReal) (j : Fin 384) : win3 c f j * win3 c g j = win3 c (fun k => f k * g k) j := by
  refine cat3_ext (f := fun j => win3 c f j * win3 c g j) (fun a => ?_) (fun a => ?_) (fun a => ?_) j <;>
    simp only [win3, cat3_left, cat3_own, cat3_right]
  · split <;> simp
  · split <;> simp

end Pure

/-! ## The mask -/

theorem w5_eq (c : Dev nD) : w5 c = BitVec.ofBool (decide (0 < (c : ℕ))) := by revert c; decide
theorem w6_eq (c : Dev nD) : w6 c = BitVec.ofBool (decide ((c : ℕ) < 15)) := by revert c; decide

theorem select_ofBool {α : Type} (p : Bool) (a b : α) : Scalar.select (BitVec.ofBool p) a b = if p = true then a else b := by
  cases p <;> rfl

/-- The mask keeps, of the window, the positions near the query's, and none of a block that is not there. -/
theorem select_msk (c : Fin 16) (r : Fin 128) (j : Fin 384) (u : Fin 384 → EReal) (g : Fin 2048 → EReal)
    (hl : ∀ (h : 0 < (c : ℕ)) (a : Fin 128), u ⟨a, by omega⟩ = g (row ⟨(c : ℕ) - 1, by omega⟩ a))
    (ho : ∀ a : Fin 128, u ⟨128 + a, by omega⟩ = g (row c a))
    (hr : ∀ (h : (c : ℕ) < 15) (a : Fin 128), u ⟨256 + a, by omega⟩ = g (row ⟨(c : ℕ) + 1, by omega⟩ a)) :
    Scalar.select (msk c (ix2 r j)) (u j) 0 = win3 c (fun k => if near (row c r) k then g k else 0) j := by
  have lt (x : Fin 128) : (x : ℕ) < 2 ^ (32 - 1) := lt_trans x.isLt (by norm_num)
  simp only [msk, pay15_at, w5_eq, w6_eq]
  refine cat3_ext (f := fun j => Scalar.select (cat3 _ _ _ j) (u j) 0) (fun a => ?_) (fun a => ?_) (fun a => ?_) j <;>
    simp only [win3, cat3_left, cat3_own, cat3_right]
  · rw [WordCmp.cmpi_sle_ofNat (lt r) (lt a), WordCmp.andi_ofBool, select_ofBool]
    by_cases h : 0 < (c : ℕ)
    · simp [h, hl h, near_left c h]
    · simp [h]
  · rw [ho, if_pos (near_own c r a)]; rfl
  · rw [WordCmp.cmpi_sge_ofNat (lt r) (lt a), WordCmp.andi_ofBool, select_ofBool]
    by_cases h : (c : ℕ) < 15
    · simp [h, hr h, near_right c h]
    · simp [h]

/-! ## The reads -/

variable (m : (ℓ : Loc nD τ sig) → Buf (Elt Ideal) ℓ)

/-- The staged operands are the argument arrays. -/
theorem xst_eq (c : Dev nD) : xst m c = m ((c : Thread nD τ).loc main_arg0) := by
  funext i
  exact congrArg (m ((c : Thread nD τ).loc main_arg0)) (by blk_ext <;> exact (congrArg (· + _) (Nat.zero_mul _)).trans (Nat.zero_add _))
theorem wqst_eq (c : Dev nD) : wqst m c = m ((c : Thread nD τ).loc main_arg1) := by
  funext i
  exact congrArg (m ((c : Thread nD τ).loc main_arg1)) (by blk_ext <;> exact (congrArg (· + _) (Nat.zero_mul _)).trans (Nat.zero_add _))
theorem kst_eq (c : Dev nD) : kst m c = m ((c : Thread nD τ).loc main_arg2) := by
  funext i
  exact congrArg (m ((c : Thread nD τ).loc main_arg2)) (by blk_ext <;> exact (congrArg (· + _) (Nat.zero_mul _)).trans (Nat.zero_add _))
theorem vst_eq (c : Dev nD) : vst m c = m ((c : Thread nD τ).loc main_arg3) := by
  funext i
  exact congrArg (m ((c : Thread nD τ).loc main_arg3)) (by blk_ext <;> exact (congrArg (· + _) (Nat.zero_mul _)).trans (Nat.zero_add _))
theorem wost_eq (c : Dev nD) : wost m c = m ((c : Thread nD τ).loc main_arg4) := by
  funext i
  exact congrArg (m ((c : Thread nD τ).loc main_arg4)) (by blk_ext <;> exact (congrArg (· + _) (Nat.zero_mul _)).trans (Nat.zero_add _))

theorem rdX_eq (c : Dev nD) : rdX m c = m ((c : Thread nD τ).loc main_arg0) :=
  (View.readAt_full _ _ _).trans (xst_eq m c)
theorem rdWq_eq (c : Dev nD) : rdWq m c = m ((c : Thread nD τ).loc main_arg1) :=
  (View.readAt_full _ _ _).trans (wqst_eq m c)
theorem rdWo_eq (c : Dev nD) : rdWo m c = m ((c : Thread nD τ).loc main_arg4) :=
  (View.readAt_full _ _ _).trans (wost_eq m c)

/-- A load of one batch entry of a source buffer, and of one landing window. -/
theorem rdS_at (kd b : Fin 2) (c : Dev nD) (a : Fin 128) (e : Fin 256) : rdS m kd b c (ix3 0 a e) = kvs m kd c (ix3 b a e) := by
  match kd with
  | 0 =>
    refine congrArg (kvs m 0 c) (funext fun x => Fin.ext ?_)
    match x with
    | ⟨0, _⟩ => show b.val + 1 * 0 = _; simp
    | ⟨1, _⟩ => show 0 + 1 * a.val = _; simp
    | ⟨2, _⟩ => show 0 + 1 * e.val = _; simp
  | 1 =>
    refine congrArg (kvs m 1 c) (funext fun x => Fin.ext ?_)
    match x with
    | ⟨0, _⟩ => show b.val + 1 * 0 = _; simp
    | ⟨1, _⟩ => show 0 + 1 * a.val = _; simp
    | ⟨2, _⟩ => show 0 + 1 * e.val = _; simp
theorem rdD_at (kd b s : Fin 2) (c : Dev nD) (a : Fin 128) (e : Fin 256) :
    rdD m kd b s c (ix4 0 0 a e) = halo m kd c (ix4 s b a e) := by
  match kd with
  | 0 =>
    refine congrArg (halo m 0 c) (funext fun x => Fin.ext ?_)
    match x with
    | ⟨0, _⟩ => show s.val + 1 * 0 = _; simp
    | ⟨1, _⟩ => show b.val + 1 * 0 = _; simp
    | ⟨2, _⟩ => show 0 + 1 * a.val = _; simp
    | ⟨3, _⟩ => show 0 + 1 * e.val = _; simp
  | 1 =>
    refine congrArg (halo m 1 c) (funext fun x => Fin.ext ?_)
    match x with
    | ⟨0, _⟩ => show s.val + 1 * 0 = _; simp
    | ⟨1, _⟩ => show b.val + 1 * 0 = _; simp
    | ⟨2, _⟩ => show 0 + 1 * a.val = _; simp
    | ⟨3, _⟩ => show 0 + 1 * e.val = _; simp

/-- Every device holds its block of `X`, `K` and `V`, and all of `Wq` and `Wo`. -/
structure Holds (X : Fin 2 → Fin 2048 → Fin 512 → EReal) (Wq : Fin 512 → Fin 256 → EReal)
    (K V : Fin 2 → Fin 2048 → Fin 4 → Fin 64 → EReal) (Wo : Fin 256 → Fin 512 → EReal) : Prop where
  x (c : Dev nD) (b : Fin 2) (r : Fin 128) (d : Fin 512) : m ((c : Thread nD τ).loc main_arg0) (ix3 b r d) = X b (row c r) d
  wq (c : Dev nD) (d : Fin 512) (e : Fin 256) : m ((c : Thread nD τ).loc main_arg1) (ix2 d e) = Wq d e
  k (c : Dev nD) (b : Fin 2) (r : Fin 128) (h : Fin 4) (d : Fin 64) :
    m ((c : Thread nD τ).loc main_arg2) (ix4 b r h d) = K b (row c r) h d
  v (c : Dev nD) (b : Fin 2) (r : Fin 128) (h : Fin 4) (d : Fin 64) :
    m ((c : Thread nD τ).loc main_arg3) (ix4 b r h d) = V b (row c r) h d
  wo (c : Dev nD) (e : Fin 256) (n : Fin 512) : m ((c : Thread nD τ).loc main_arg4) (ix2 e n) = Wo e n

variable {X : Fin 2 → Fin 2048 → Fin 512 → EReal} {Wq : Fin 512 → Fin 256 → EReal}
  {K V : Fin 2 → Fin 2048 → Fin 4 → Fin 64 → EReal} {Wo : Fin 256 → Fin 512 → EReal}

/-- What a device sends, and what lands on it, of contents `G` that the devices hold by blocks. -/
theorem kvs_at {m} (H : Holds m X Wq K V Wo) (kd : Fin 2) (c : Dev nD) (b : Fin 2) (a : Fin 128) (e : Fin 256) :
    kvs m kd c (ix3 b a e) = (if kd = 0 then K else V) b (row c a) (headOf e) (laneOf e) := by
  match kd with
  | 0 => exact (congrFun (kst_eq m c) _).trans (H.k c b a _ _)
  | 1 => exact (congrFun (vst_eq m c) _).trans (H.v c b a _ _)

theorem halo_left {m} (H : Holds m X Wq K V Wo) (kd : Fin 2) (c : Fin 16) (b : Fin 2) (a : Fin 128) (e : Fin 256) :
    halo m kd c (ix4 0 b a e)
      = if h : 0 < (c : ℕ) then (if kd = 0 then K else V) b (row ⟨c - 1, by omega⟩ a) (headOf e) (laneOf e) else 0 := by
  show (if decide (0 < (c : ℕ)) = true then kvs m kd (prv c) (ix3 b a e) else Scalar.ofBits (F := Ideal) .bf16 0x0000#16) = _
  by_cases h : 0 < (c : ℕ)
  · have hp : prv c = (⟨c - 1, by omega⟩ : Fin 16) := Fin.ext (by show ((c : ℕ) + 15) % 16 = c - 1; omega)
    rw [if_pos (by simpa using h), dif_pos h, hp, kvs_at H]
  · rw [if_neg (by simpa using h), dif_neg h]
    exact Ideal.ofBits_zero_bf16
theorem halo_right {m} (H : Holds m X Wq K V Wo) (kd : Fin 2) (c : Fin 16) (b : Fin 2) (a : Fin 128) (e : Fin 256) :
    halo m kd c (ix4 1 b a e)
      = if h : (c : ℕ) < 15 then (if kd = 0 then K else V) b (row ⟨c + 1, by omega⟩ a) (headOf e) (laneOf e) else 0 := by
  show (if decide ((c : ℕ) < 15) = true then kvs m kd (nxt c) (ix3 b a e) else Scalar.ofBits (F := Ideal) .bf16 0x0000#16) = _
  by_cases h : (c : ℕ) < 15
  · have hp : nxt c = (⟨c + 1, by omega⟩ : Fin 16) := Fin.ext (by show ((c : ℕ) + 1) % 16 = c + 1; omega)
    rw [if_pos (by simpa using h), dif_pos h, hp, kvs_at H]
  · rw [if_neg (by simpa using h), dif_neg h]
    exact Ideal.ofBits_zero_bf16

/-- The three loads of one batch entry are the window of the device. -/
theorem window_at {m} (H : Holds m X Wq K V Wo) (kd : Fin 2) (c : Fin 16) (b : Fin 2) (e : Fin 256) (j : Fin 384) :
    cat3 (fun a => rdD m kd b 0 c (ix4 0 0 a e)) (fun a => rdS m kd b c (ix3 0 a e)) (fun a => rdD m kd b 1 c (ix4 0 0 a e)) j
      = win3 c (fun k => (if kd = 0 then K else V) b k (headOf e) (laneOf e)) j := by
  simp only [win3, rdD_at, rdS_at, kvs_at H, halo_left H, halo_right H]

/-! ## The result -/

/-- The scale of the queries. -/
def scale : EReal := Ideal.ofBits .f32 0x3E000000#32

/-- The weights of head `h` of batch `b` are the exponentials of the scores, over the positions near the query's. -/
theorem wgt_at {m} (H : Holds m X Wq K V Wo) (c : Fin 16) (k : FVec Ideal S384x256 .bf16) (b : Fin 2) (h : Fin 4) (r : Fin 128)
    (hk : ∀ j e, k (ix2 j e) = win3 c (fun i => K b i (headOf e) (laneOf e)) j) (j : Fin 384) :
    wgt (qAll m c) (msk c) k b h r j
      = win3 c (fun i => if near (row c r) i then Ideal.exp (score scale X Wq K b h (row c r) i) else 0) j := by
  have hh (d : Fin 64) : headOf ⟨h * 64 + d, by omega⟩ = h := Fin.ext (by simp only [headOf]; omega)
  have hl (d : Fin 64) : laneOf ⟨h * 64 + d, by omega⟩ = d := Fin.ext (by simp only [laneOf]; omega)
  have hq (d : Fin 64) : qAll m c (ix2 ⟨b * 128 + r, by omega⟩ ⟨h * 64 + d, by omega⟩)
      = (∑ p : Fin 512, X b (row c r) p * Wq p ⟨h * 64 + d, by omega⟩) * scale := by
    rw [qAll, pay14_at, rdX_eq, rdWq_eq]
    exact congrArg (· * scale) (Finset.sum_congr rfl fun p _ => by rw [H.x c b r p, H.wq c p])
  refine select_msk c r j (fun j => Ideal.exp (∑ d : Fin 64, qAll m c (ix2 ⟨b * 128 + r, by omega⟩ ⟨h * 64 + d, by omega⟩)
      * k (ix2 j ⟨h * 64 + d, by omega⟩))) _ (fun hc a => ?_) (fun a => ?_) (fun hc a => ?_)
  · simp only [hk, hq, hh, hl, win3, cat3_left, dif_pos hc, score]
  · simp only [hk, hq, hh, hl, win3, cat3_own, score]
  · simp only [hk, hq, hh, hl, win3, cat3_right, dif_pos hc, score]

/-- Batch `b` of the result, from its weights and reciprocals. -/
theorem outRow_at {m} (H : Holds m X Wq K V Wo) (c : Fin 16) (b : Fin 2) (r : Fin 128) (n : Fin 512)
    (W : Fin 4 → Fin 384 → EReal)
    (hW : ∀ h j, W h j = win3 c (fun i => if near (row c r) i then Ideal.exp (score scale X Wq K b h (row c r) i) else 0) j) :
    outRow W (fun h => Ideal.div 1 (∑ j, W h j))
        (fun e => cat3 (fun a => rdD m 1 b 0 c (ix4 0 0 a e)) (fun a => rdS m 1 b c (ix3 0 a e)) (fun a => rdD m 1 b 1 c (ix4 0 0 a e)))
        (rdWo m c) n
      = attend (fun b h i k => Ideal.exp (score scale X Wq K b h i k)) V Wo b (row c r) n := by
  have e1 (h : Fin 4) := sum_win3 c r (fun i => if near (row c r) i then Ideal.exp (score scale X Wq K b h (row c r) i) else 0)
    fun k hk => if_neg hk
  have e2 (h : Fin 4) (e : Fin 256) := sum_win3 c r
    (fun i => (if near (row c r) i then Ideal.exp (score scale X Wq K b h (row c r) i) else 0) * V b i (headOf e) (laneOf e))
    fun k hk => by rw [if_neg hk, zero_mul]
  simp only [outRow, attend, hW, window_at H, win3_mul, e1, rdWo_eq]
  refine Finset.sum_congr rfl fun x _ => ?_
  rw [H.wo c x n]
  exact congrArg (fun t => t * _ * _) (e2 _ x)

/-- The result of a device at an index. -/
theorem outC_at {m} (H : Holds m X Wq K V Wo) (c : Fin 16) (b : Fin 2) (r : Fin 128) (n : Fin 512) :
    outC m c (ix3 b r n) = attend (fun b h i k => Ideal.exp (score scale X Wq K b h i k)) V Wo b (row c r) n := by
  have hk0 (j : Fin 384) (e : Fin 256) : kc0 m c (ix2 j e) = win3 c (fun i => K 0 i (headOf e) (laneOf e)) j :=
    (pay16_at _ _ _ j e).trans (window_at H 0 c 0 e j)
  have hk1 (j : Fin 384) (e : Fin 256) : kc1 m c (ix2 j e) = win3 c (fun i => K 1 i (headOf e) (laneOf e)) j :=
    (pay32_at _ _ _ j e).trans (window_at H 0 c 1 e j)
  match b with
  | 0 =>
    refine Eq.trans ?_ (outRow_at H c 0 r n (fun h => wgt (qAll m c) (msk c) (kc0 m c) 0 h r)
      fun h j => wgt_at H c (kc0 m c) 0 h r hk0 j)
    exact pay31_at _ _ _ _ _ _ _ _ _ _ _ _ _ _ _ _ (fun j => pay21_at ..) (fun j => pay24_at ..) (fun j => pay27_at ..)
      (fun j => pay30_at ..) (pay20_at ..) (pay23_at ..) (pay26_at ..) (pay29_at ..)
  | 1 =>
    refine Eq.trans ?_ (outRow_at H c 1 r n (fun h => wgt (qAll m c) (msk c) (kc1 m c) 1 h r)
      fun h j => wgt_at H c (kc1 m c) 1 h r hk1 j)
    exact pay48_at _ _ _ _ _ _ _ _ _ _ _ _ _ _ _ _ (fun j => pay35_at ..) (fun j => pay40_at ..) (fun j => pay43_at ..)
      (fun j => pay46_at ..) (pay34_at ..) (pay39_at ..) (pay42_at ..) (pay45_at ..)

end Cert.HaloProof

end
-- ==== Proof.Algebraic.lean ====
/-
  The value claim: over the extended reals, from whole arrays of which every device holds its block, the kernel leaves
  on every device its block of the reference's result.
-/
module

public import proofs.«01_k».proof.Proof.Frames
public import proofs.«01_k».proof.Proof.Blocks
public import proofs.«01_k».proof.Proof.Finite
public import Idealize.ShloMosaic.Lib.LayoutAt

@[expose] public section

set_option maxRecDepth 65536

noncomputable section

namespace Cert.Proof

open Idealize.ShloMosaic Idealize.SL.Sem Cert.HaloProof

attribute [local instance] Cert.KernelIdeal.Gen.facts Cert.ReferenceIdeal.Gen.facts finite_facts finite_facts_whole

/-- Where an element of a block is in the whole array: `row` along the sequence, itself on the other axes. -/
theorem idx3 {n : ℕ} (h : Layout.Tiles ⟨3, ![2, 128, n]⟩ ⟨3, ![2, 2048, n]⟩ 1 16) (c : Fin 16) (b : Fin 2) (r : Fin 128) (d : Fin n) :
    h.idx c (ix3 b r d) = ix3 b (row c r) d :=
  Layout.idx_ext fun a => match a with
    | ⟨0, _⟩ => Layout.Tiles.idx_val_of_ne h c _ 0 Nat.zero_ne_one
    | ⟨1, _⟩ => Layout.Tiles.idx_val_self h c _ 1 rfl
    | ⟨2, _⟩ => Layout.Tiles.idx_val_of_ne h c _ 2 (Nat.succ_ne_self 1)
theorem idx4 (h : Layout.Tiles ⟨4, ![2, 128, 4, 64]⟩ ⟨4, ![2, 2048, 4, 64]⟩ 1 16) (c : Fin 16) (b : Fin 2) (r : Fin 128)
    (e : Fin 4) (d : Fin 64) : h.idx c (ix4 b r e d) = ix4 b (row c r) e d :=
  Layout.idx_ext fun a => match a with
    | ⟨0, _⟩ => Layout.Tiles.idx_val_of_ne h c _ 0 (by decide)
    | ⟨1, _⟩ => Layout.Tiles.idx_val_self h c _ 1 rfl
    | ⟨2, _⟩ => Layout.Tiles.idx_val_of_ne h c _ 2 (by decide)
    | ⟨3, _⟩ => Layout.Tiles.idx_val_of_ne h c _ 3 (by decide)

/-- On every device the kernel's result is the device's block of the reference's. -/
theorem result_eq (m : (ℓ : Loc Cert.KernelIdeal.nD Cert.KernelIdeal.τ Cert.KernelIdeal.sig) → Buf (Elt Ideal) ℓ)
    (x0 : FVec Ideal ⟨3, ![2, 2048, 512]⟩ .f32) (x1 : FVec Ideal ⟨2, ![512, 256]⟩ .f32)
    (x2 x3 : FVec Ideal ⟨4, ![2, 2048, 4, 64]⟩ .f32) (x4 : FVec Ideal ⟨2, ![256, 512]⟩ .f32)
    (hm : ∀ c : Dev Cert.KernelIdeal.nD,
      m ((c.tc : Thread Cert.KernelIdeal.nD Cert.KernelIdeal.τ).loc Cert.KernelIdeal.main_arg0)
          = Layout.block ⟨3, ![2, 128, 512]⟩ ⟨3, ![2, 2048, 512]⟩ 1 16 c x0
        ∧ m ((c.tc : Thread Cert.KernelIdeal.nD Cert.KernelIdeal.τ).loc Cert.KernelIdeal.main_arg1) = x1
        ∧ m ((c.tc : Thread Cert.KernelIdeal.nD Cert.KernelIdeal.τ).loc Cert.KernelIdeal.main_arg2)
          = Layout.block ⟨4, ![2, 128, 4, 64]⟩ ⟨4, ![2, 2048, 4, 64]⟩ 1 16 c x2
        ∧ m ((c.tc : Thread Cert.KernelIdeal.nD Cert.KernelIdeal.τ).loc Cert.KernelIdeal.main_arg3)
          = Layout.block ⟨4, ![2, 128, 4, 64]⟩ ⟨4, ![2, 2048, 4, 64]⟩ 1 16 c x3
        ∧ m ((c.tc : Thread Cert.KernelIdeal.nD Cert.KernelIdeal.τ).loc Cert.KernelIdeal.main_arg4) = x4)
    (hf : Cert.Pre_KernelIdeal_finite_KernelIdeal m) (c : Dev Cert.KernelIdeal.nD) :
    outC m c = Layout.block ⟨3, ![2, 128, 512]⟩ ⟨3, ![2, 2048, 512]⟩ 1 16 c
      (Cert.ReferenceIdeal.Read.val_main_v34 (F := Ideal) x0 x1 x2 x3 x4) := by
  have H : Holds m (fun b i p => x0 (ix3 b i p)) (fun p e => x1 (ix2 p e)) (fun b k h d => x2 (ix4 b k h d))
      (fun b k h d => x3 (ix4 b k h d)) (fun e n => x4 (ix2 e n)) :=
    ⟨fun c b r d => (congrFun (hm c).1 (ix3 b r d)).trans (congrArg x0 (idx3 _ c b r d)),
      fun c d e => congrFun (hm c).2.1 (ix2 d e),
      fun c b r h d => (congrFun (hm c).2.2.1 (ix4 b r h d)).trans (congrArg x2 (idx4 _ c b r h d)),
      fun c b r h d => (congrFun (hm c).2.2.2.1 (ix4 b r h d)).trans (congrArg x3 (idx4 _ c b r h d)),
      fun c e n => congrFun (hm c).2.2.2.2 (ix2 e n)⟩
  have r0 (j : Shape.Idx ⟨3, ![2, 2048, 512]⟩) : ∃ y : ℝ, x0 j = (y : EReal) := by
    rw [eq_ix3 j]
    obtain ⟨c, r, hr⟩ := exists_row (j 1)
    obtain ⟨y, hy⟩ := x_real _ _ _ _ _ (hf c).1 (j 0) r (j 2)
    exact ⟨y, (congrArg (fun i => x0 (ix3 (j 0) i (j 2))) hr).trans ((H.x c (j 0) r (j 2)).symm.trans hy)⟩
  have r1 (j : Shape.Idx ⟨2, ![512, 256]⟩) : ∃ y : ℝ, x1 j = (y : EReal) := by
    rw [eq_ix2 j]
    obtain ⟨y, hy⟩ := wq_real _ _ _ _ _ (hf 0).2.1 (j 0) (j 1)
    exact ⟨y, (H.wq 0 (j 0) (j 1)).symm.trans hy⟩
  have r2 (j : Shape.Idx ⟨4, ![2, 2048, 4, 64]⟩) : ∃ y : ℝ, x2 j = (y : EReal) := by
    rw [eq_ix4 j]
    obtain ⟨c, r, hr⟩ := exists_row (j 1)
    obtain ⟨y, hy⟩ := k_real _ _ _ _ _ (hf c).2.2 (j 0) r (j 2) (j 3)
    exact ⟨y, (congrArg (fun i => x2 (ix4 (j 0) i (j 2) (j 3))) hr).trans ((H.k c (j 0) r (j 2) (j 3)).symm.trans hy)⟩
  choose y0 h0 using r0
  choose y1 h1 using r1
  choose y2 h2 using r2
  funext i
  rw [eq_ix3 i]
  exact (outC_at H c (i 0) (i 1) (i 2)).trans
    ((reference_at x0 x1 x2 x3 x4 y0 y1 y2 h0 h1 h2 (i 0) (row c (i 1)) (i 2)).symm.trans
      (congrArg _ (idx3 _ c (i 0) (i 1) (i 2)).symm))

/-- The value claim. -/
theorem algebraic : Cert.algebraic_KernelIdeal_ReferenceIdeal_pre_finite_KernelIdeal := fun m ρ m' ρ' hf hm =>
  ⟨Cert.ReferenceIdeal.Read.val_main_v34 (F := Ideal) _ _ _ _ _,
    (θ_run Cert.KernelIdeal.defs _ _).mono
      (fun _ h c => ⟨(h.1 c).1.trans (result_eq m _ _ _ _ _ hm hf c), (h.1 c).2⟩)
      (Cert.HaloProof.run_main (F := Ideal) m ρ),
    (θ_run Cert.ReferenceIdeal.defs _ _).mono
      (fun _ h => ⟨(h 0).1.trans (Cert.ReferenceIdeal.Read.val_main_v34_eq (F := Ideal) m' 0), (h 0).2⟩)
      (Cert.ReferenceIdeal.Value.run (F := Ideal) m' ρ')⟩

end Cert.Proof

end
-- ==== Proof.lean ====
/-
  The certificate: the five claims, each from the module that proves it.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Launch
public import proofs.«01_k».proof.Proof.Frames
public import proofs.«01_k».proof.Proof.Finite
public import proofs.«01_k».proof.Proof.Algebraic
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.HaloProof.finite_facts, Cert.HaloProof.finite_facts_whole, frame_kernel, frame_kernelIdeal,
    frame_kernelIdeal_finite, frame_reference, frame_reference_finite, trivial, algebraic⟩

end Cert.Proof

end
